-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing [hPre_finite_routing : Cert.Pre_finite_routing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing [hPre_finite_routing : Cert.Pre_finite_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_routing [hKernelIdeal : Cert.KernelIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_routing [hReferenceIdeal : Cert.ReferenceIdeal.Facts] [hPre_finite_routing : Cert.Pre_finite_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_routing [hKernelIdeal : Cert.KernelIdeal.Facts] [hReferenceIdeal : Cert.ReferenceIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_routing : Cert.Pre_finite_routing.Facts),
    quiescent_Kernel (hKernel := hKernel)
    ∧ quiescent_KernelIdeal (hKernelIdeal := hKernelIdeal)
    ∧ quiescent_KernelIdeal_pre_finite_routing (hKernelIdeal := hKernelIdeal) (hPre_finite_routing := hPre_finite_routing)
    ∧ quiescent_ReferenceIdeal (hReferenceIdeal := hReferenceIdeal)
    ∧ quiescent_ReferenceIdeal_pre_finite_routing (hReferenceIdeal := hReferenceIdeal) (hPre_finite_routing := hPre_finite_routing)
    ∧ preserves_Kernel_KernelIdeal
    ∧ algebraic_KernelIdeal_ReferenceIdeal_pre_finite_routing (hKernelIdeal := hKernelIdeal) (hReferenceIdeal := hReferenceIdeal) (hPre_finite_routing := hPre_finite_routing)
-- ==== Pre_finite_routing.lean ====
abbrev S1x2048x768 : Shape := ⟨3, ![1, 2048, 768]⟩
abbrev S8x768 : Shape := ⟨2, ![8, 768]⟩
abbrev S8x8x768 : Shape := ⟨3, ![8, 8, 768]⟩
abbrev S8x8x1536x768 : Shape := ⟨4, ![8, 8, 1536, 768]⟩
abbrev S8x8x1536 : Shape := ⟨3, ![8, 8, 1536]⟩
abbrev S8x8x768x1536 : Shape := ⟨4, ![8, 8, 768, 1536]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_
  bcast_S_S8x8x768 : S_.BroadcastsInDim S8x8x768 (![] : Fin 0 → Fin S8x8x768.rank)
  reducesTo_S8x8x768_S_d0_1_2 : S8x8x768.ReducesTo [0, 1, 2] S_

variable [Facts]

def fn {F : FTy → Type} [FloatOps F] (main_arg0 : FVec F S1x2048x768 .f32) (main_arg1 : FVec F S8x768 .f32) (main_arg2 : FVec F S8x8x768 .f32) (main_arg3 : FVec F S8x8x1536x768 .f32) (main_arg4 : FVec F S8x8x1536 .f32) (main_arg5 : FVec F S8x8x768x1536 .f32) (main_arg6 : FVec F S8x8x768 .f32) : IVec S_ 1 × IVec S_ 1 × IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : FVec F S8x8x768 .f32 := Host.absf main_arg2
  let main_cst_2 : FVec F S_ .f32 := constant S_ .f32 0x7F800000#32
  let main_v9 : FVec F S8x8x768 .f32 := broadcastInDim S8x8x768 ![] bcast_S_S8x8x768 main_cst_2
  let main_v10 : IVec S8x8x768 1 := cmpf .olt main_v8 main_v9
  let main_c_3 : IVec S_ 1 := constantI S_ 1 1#1
  let main_v11 : IVec S_ 1 := (fun x v => Host.reduce IntOp.andi x v reducesTo_S8x8x768_S_d0_1_2 h_S_) main_v10 main_c_3
  (main_v3, main_v7, main_v11)
-- ==== Kernel.lean ====
abbrev S1x2048x768 : Shape := ⟨3, ![1, 2048, 768]⟩
abbrev S8x768 : Shape := ⟨2, ![8, 768]⟩
abbrev S8x8x768 : Shape := ⟨3, ![8, 8, 768]⟩
abbrev S8x8x1536x768 : Shape := ⟨4, ![8, 8, 1536, 768]⟩
abbrev S8x8x1536 : Shape := ⟨3, ![8, 8, 1536]⟩
abbrev S8x8x768x1536 : Shape := ⟨4, ![8, 8, 768, 1536]⟩
abbrev S2048x768 : Shape := ⟨2, ![2048, 768]⟩
abbrev S64x768 : Shape := ⟨2, ![64, 768]⟩
abbrev S64x1536x768 : Shape := ⟨3, ![64, 1536, 768]⟩
abbrev S64x768x1536 : Shape := ⟨3, ![64, 768, 1536]⟩
abbrev S64x1536 : Shape := ⟨2, ![64, 1536]⟩
abbrev S64x2048 : Shape := ⟨2, ![64, 2048]⟩
abbrev S1x64 : Shape := ⟨2, ![1, 64]⟩
abbrev S8x2048 : Shape := ⟨2, ![8, 2048]⟩
abbrev S2048 : Shape := ⟨1, ![2048]⟩
abbrev S1x2048 : Shape := ⟨2, ![1, 2048]⟩
abbrev S256x256 : Shape := ⟨2, ![256, 256]⟩
abbrev S64x1 : Shape := ⟨2, ![64, 1]⟩
abbrev S64x256 : Shape := ⟨2, ![64, 256]⟩
abbrev S64 : Shape := ⟨1, ![64]⟩
abbrev S64x1x2048 : Shape := ⟨3, ![64, 1, 2048]⟩
abbrev S64x1x1536 : Shape := ⟨3, ![64, 1, 1536]⟩
abbrev S64x1x768 : Shape := ⟨3, ![64, 1, 768]⟩
abbrev S2x1x2048 : Shape := ⟨3, ![2, 1, 2048]⟩
abbrev S2x1536x768 : Shape := ⟨3, ![2, 1536, 768]⟩
abbrev S2x1x1536 : Shape := ⟨3, ![2, 1, 1536]⟩
abbrev S2x768x1536 : Shape := ⟨3, ![2, 768, 1536]⟩
abbrev S2x1x768 : Shape := ⟨3, ![2, 1, 768]⟩
abbrev S1 : Shape := ⟨1, ![1]⟩
abbrev S192x1 : Shape := ⟨2, ![192, 1]⟩
abbrev S1x1x2048 : Shape := ⟨3, ![1, 1, 2048]⟩
abbrev S192x2048 : Shape := ⟨2, ![192, 2048]⟩
abbrev S384x2048 : Shape := ⟨2, ![384, 2048]⟩
abbrev S384x768 : Shape := ⟨2, ![384, 768]⟩
abbrev S192x768 : Shape := ⟨2, ![192, 768]⟩
abbrev S1x1536x768 : Shape := ⟨3, ![1, 1536, 768]⟩
abbrev S1536x768 : Shape := ⟨2, ![1536, 768]⟩
abbrev S192x1536 : Shape := ⟨2, ![192, 1536]⟩
abbrev S1x1x1536 : Shape := ⟨3, ![1, 1, 1536]⟩
abbrev S1x1536 : Shape := ⟨2, ![1, 1536]⟩
abbrev S1x768x1536 : Shape := ⟨3, ![1, 768, 1536]⟩
abbrev S768x1536 : Shape := ⟨2, ![768, 1536]⟩
abbrev S1x1x768 : Shape := ⟨3, ![1, 1, 768]⟩
abbrev S1x768 : Shape := ⟨2, ![1, 768]⟩

abbrev nBuf : Space → Nat
  | .hbm => 23
  | .vmem => 20
  | .smem => 1
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S8x8x768, .f32⟩
  | .hbm, ⟨3, _⟩ => ⟨S8x8x1536x768, .f32⟩
  | .hbm, ⟨4, _⟩ => ⟨S8x8x1536, .f32⟩
  | .hbm, ⟨5, _⟩ => ⟨S8x8x768x1536, .f32⟩
  | .hbm, ⟨6, _⟩ => ⟨S8x8x768, .f32⟩
  | .hbm, ⟨7, _⟩ => ⟨S2048x768, .f32⟩
  | .hbm, ⟨8, _⟩ => ⟨S64x768, .f32⟩
  | .hbm, ⟨9, _⟩ => ⟨S64x1536x768, .f32⟩
  | .hbm, ⟨10, _⟩ => ⟨S64x768x1536, .f32⟩
  | .hbm, ⟨11, _⟩ => ⟨S64x1536, .f32⟩
  | .hbm, ⟨12, _⟩ => ⟨S64x768, .f32⟩
  | .hbm, ⟨13, _⟩ => ⟨S64x2048, .f32⟩
  | .hbm, ⟨14, _⟩ => ⟨S64x2048, .i32⟩
  | .hbm, ⟨15, _⟩ => ⟨S1x64, .i32⟩
  | .hbm, ⟨16, _⟩ => ⟨S2048x768, .bf16⟩
  | .hbm, ⟨17, _⟩ => ⟨S64x1x2048, .i32⟩
  | .hbm, ⟨18, _⟩ => ⟨S64x1x2048, .f32⟩
  | .hbm, ⟨19, _⟩ => ⟨S64x1x1536, .f32⟩
  | .hbm, ⟨20, _⟩ => ⟨S64x1x768, .f32⟩
  | .hbm, ⟨21, _⟩ => ⟨S2048x768, .f32⟩
  | .hbm, ⟨22, _⟩ => ⟨S1x2048x768, .f32⟩
  | .local _ .vmem, ⟨0, _⟩ => ⟨S2048x768, .f32⟩
  | .local _ .vmem, ⟨1, _⟩ => ⟨S8x768, .f32⟩
  | .local _ .vmem, ⟨2, _⟩ => ⟨S64x768, .f32⟩
  | .local _ .vmem, ⟨3, _⟩ => ⟨S64x2048, .f32⟩
  | .local _ .vmem, ⟨4, _⟩ => ⟨S64x2048, .i32⟩
  | .local _ .vmem, ⟨5, _⟩ => ⟨S1x64, .i32⟩
  | .local _ .vmem, ⟨6, _⟩ => ⟨S2048x768, .bf16⟩
  | .local _ .vmem, ⟨7, _⟩ => ⟨S2x1x2048, .i32⟩
  | .local _ .vmem, ⟨8, _⟩ => ⟨S2x1x2048, .i32⟩
  | .local _ .vmem, ⟨9, _⟩ => ⟨S2x1x2048, .f32⟩
  | .local _ .vmem, ⟨10, _⟩ => ⟨S2x1x2048, .f32⟩
  | .local _ .vmem, ⟨11, _⟩ => ⟨S2x1536x768, .f32⟩
  | .local _ .vmem, ⟨12, _⟩ => ⟨S2x1536x768, .f32⟩
  | .local _ .vmem, ⟨13, _⟩ => ⟨S2x1x1536, .f32⟩
  | .local _ .vmem, ⟨14, _⟩ => ⟨S2x1x1536, .f32⟩
  | .local _ .vmem, ⟨15, _⟩ => ⟨S2x768x1536, .f32⟩
  | .local _ .vmem, ⟨16, _⟩ => ⟨S2x768x1536, .f32⟩
  | .local _ .vmem, ⟨17, _⟩ => ⟨S2x1x768, .f32⟩
  | .local _ .vmem, ⟨18, _⟩ => ⟨S2x1x768, .f32⟩
  | .local _ .vmem, ⟨19, _⟩ => ⟨S2048x768, .f32⟩
  | .local _ .smem, ⟨0, _⟩ => ⟨S64, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![32], ![false]⟩

abbrev pre1 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c2_i32 : BitVec 32 := 2#32
  let v3 : BitVec 32 := Scalar.muli arg0 c2_i32
  let v4 : Index := Scalar.indexCast v3
  ![v4.toNat]
def k1_off2 (i : grid1.Coords) : Fin 1 → Nat :=
  let arg0 : BitVec 32 := BitVec.ofNat 32 (i 0).val
  let c2_i32_1 : BitVec 32 := 2#32
  let v8 : BitVec 32 := Scalar.muli arg0 c2_i32_1
  let c1_i32 : BitVec 32 := 1#32
  let v9 : BitVec 32 := Scalar.addi v8 c1_i32
  let v10 : Index := Scalar.indexCast v9
  ![v10.toNat]
@[reducible] def k1_t1_loop (v5 : BitVec 32) (v11 : BitVec 32) : Scf.Loop 32 :=
  let c0_i32_5 : BitVec 32 := 0#32
  let c191_i32 : BitVec 32 := 191#32
  let v6 : BitVec 32 := Scalar.addi v5 c191_i32
  let c192_i32 : BitVec 32 := 192#32
  let v7 : BitVec 32 := Scalar.divsi v6 c192_i32
  let c191_i32_2 : BitVec 32 := 191#32
  let v12 : BitVec 32 := Scalar.addi v11 c191_i32_2
  let c192_i32_3 : BitVec 32 := 192#32
  let v13 : BitVec 32 := Scalar.divsi v12 c192_i32_3
  let v14 : BitVec 32 := Scalar.maxsi v7 v13
  let v15 : BitVec 32 := Scalar.subi v14 c0_i32_5
  let c1_i32_6 : BitVec 32 := 1#32
  let v17 : BitVec 32 := Scalar.divsi v15 c1_i32_6
  let v18 : BitVec 32 := Scalar.muli v17 c1_i32_6
  let v19 : BitVec 32 := Scalar.addi c0_i32_5 v18
  let c1_i32_7 : BitVec 32 := 1#32
  ⟨c0_i32_5, v19, c1_i32_7⟩

@[reducible] def k1_t2_loop (v5 : BitVec 32) (v11 : BitVec 32) : Scf.Loop 32 :=
  let c0_i32_5 : BitVec 32 := 0#32
  let c191_i32 : BitVec 32 := 191#32
  let v6 : BitVec 32 := Scalar.addi v5 c191_i32
  let c192_i32 : BitVec 32 := 192#32
  let v7 : BitVec 32 := Scalar.divsi v6 c192_i32
  let c191_i32_2 : BitVec 32 := 191#32
  let v12 : BitVec 32 := Scalar.addi v11 c191_i32_2
  let c192_i32_3 : BitVec 32 := 192#32
  let v13 : BitVec 32 := Scalar.divsi v12 c192_i32_3
  let v14 : BitVec 32 := Scalar.maxsi v7 v13
  let v15 : BitVec 32 := Scalar.subi v14 c0_i32_5
  let c1_i32_6 : BitVec 32 := 1#32
  let v17 : BitVec 32 := Scalar.divsi v15 c1_i32_6
  let v18 : BitVec 32 := Scalar.muli v17 c1_i32_6
  let v19 : BitVec 32 := Scalar.addi c0_i32_5 v18
  let v16 : BitVec 32 := Scalar.addi c0_i32_5 v15
  let c1_i32_8 : BitVec 32 := 1#32
  ⟨v19, v16, c1_i32_8⟩

def k1_chk1 (v5 : BitVec 32) (v11 : BitVec 32) : Prop :=
  ((k1_t1_loop v5 v11).OK) ∧
  ((k1_t2_loop v5 v11).OK)
theorem k1_t1_ok : ∀ (v5 : BitVec 32) (v11 : BitVec 32) (k1_hw1 : k1_chk1 v5 v11), (k1_t1_loop v5 v11).OK := fun v5 v11 k1_hw1 => k1_hw1.1
theorem k1_t2_ok : ∀ (v5 : BitVec 32) (v11 : BitVec 32) (k1_hw1 : k1_chk1 v5 v11), (k1_t2_loop v5 v11).OK := fun v5 v11 k1_hw1 => k1_hw1.2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2x1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x1536x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x1x1536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x768x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x1x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2048x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S1x2048x768 : Shape := ⟨3, ![1, 2048, 768]⟩
abbrev S8x768 : Shape := ⟨2, ![8, 768]⟩
abbrev S8x8x768 : Shape := ⟨3, ![8, 8, 768]⟩
abbrev S8x8x1536x768 : Shape := ⟨4, ![8, 8, 1536, 768]⟩
abbrev S8x8x1536 : Shape := ⟨3, ![8, 8, 1536]⟩
abbrev S8x8x768x1536 : Shape := ⟨4, ![8, 8, 768, 1536]⟩
abbrev S2048x768 : Shape := ⟨2, ![2048, 768]⟩
abbrev S2048x8 : Shape := ⟨2, ![2048, 8]⟩
abbrev S8 : Shape := ⟨1, ![8]⟩
abbrev S2048x8x1 : Shape := ⟨3, ![2048, 8, 1]⟩
abbrev S2048x1x8 : Shape := ⟨3, ![2048, 1, 8]⟩
abbrev S2048x8x8 : Shape := ⟨3, ![2048, 8, 8]⟩
abbrev S1x8 : Shape := ⟨2, ![1, 8]⟩
abbrev S8x1 : Shape := ⟨2, ![8, 1]⟩
abbrev S8x8 : Shape := ⟨2, ![8, 8]⟩
abbrev S1x8x8 : Shape := ⟨3, ![1, 8, 8]⟩
abbrev S_ : Shape := ⟨0, ![]⟩
abbrev S2048 : Shape := ⟨1, ![2048]⟩
abbrev S2048x1 : Shape := ⟨2, ![2048, 1]⟩
abbrev S2048x8x8x1 : Shape := ⟨4, ![2048, 8, 8, 1]⟩
abbrev S2048x8x1x8 : Shape := ⟨4, ![2048, 8, 1, 8]⟩
abbrev S2048x8x8x8 : Shape := ⟨4, ![2048, 8, 8, 8]⟩
abbrev S1x1x8x8 : Shape := ⟨4, ![1, 1, 8, 8]⟩
abbrev S2048x8x8x1536 : Shape := ⟨4, ![2048, 8, 8, 1536]⟩
abbrev S1x8x8x1536 : Shape := ⟨4, ![1, 8, 8, 1536]⟩
abbrev S8x8x768x2048 : Shape := ⟨4, ![8, 8, 768, 2048]⟩
abbrev S2048x8x8x768 : Shape := ⟨4, ![2048, 8, 8, 768]⟩
abbrev S1x8x8x768 : Shape := ⟨4, ![1, 8, 8, 768]⟩
abbrev S2048x8x768 : Shape := ⟨3, ![2048, 8, 768]⟩

abbrev nBuf : Space → Nat
  | .hbm => 111
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S8x8x768, .f32⟩
  | .hbm, ⟨3, _⟩ => ⟨S8x8x1536x768, .f32⟩
  | .hbm, ⟨4, _⟩ => ⟨S8x8x1536, .f32⟩
  | .hbm, ⟨5, _⟩ => ⟨S8x8x768x1536, .f32⟩
  | .hbm, ⟨6, _⟩ => ⟨S8x8x768, .f32⟩
  | .hbm, ⟨7, _⟩ => ⟨S2048x768, .f32⟩
  | .hbm, ⟨8, _⟩ => ⟨S2048x8, .f32⟩
  | .hbm, ⟨9, _⟩ => ⟨S8, .i32⟩
  | .hbm, ⟨10, _⟩ => ⟨S2048x8x1, .f32⟩
  | .hbm, ⟨11, _⟩ => ⟨S2048x1x8, .f32⟩
  | .hbm, ⟨12, _⟩ => ⟨S2048x8x8, .f32⟩
  | .hbm, ⟨13, _⟩ => ⟨S2048x8x8, .f32⟩
  | .hbm, ⟨14, _⟩ => ⟨S2048x8x8, .i1⟩
  | .hbm, ⟨15, _⟩ => ⟨S2048x8x8, .f32⟩
  | .hbm, ⟨16, _⟩ => ⟨S2048x8x8, .f32⟩
  | .hbm, ⟨17, _⟩ => ⟨S2048x8x8, .i1⟩
  | .hbm, ⟨18, _⟩ => ⟨S1x8, .i32⟩
  | .hbm, ⟨19, _⟩ => ⟨S8x1, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S1x8x8, .i1⟩
  | .hbm, ⟨24, _⟩ => ⟨S2048x8x8, .i1⟩
  | .hbm, ⟨25, _⟩ => ⟨S2048x8x8, .i1⟩
  | .hbm, ⟨26, _⟩ => ⟨S2048x8x8, .i1⟩
  | .hbm, ⟨27, _⟩ => ⟨S2048x8x8, .i32⟩
  | .hbm, ⟨28, _⟩ => ⟨S_, .i32⟩
  | .hbm, ⟨29, _⟩ => ⟨S2048x8, .i32⟩
  | .hbm, ⟨30, _⟩ => ⟨S_, .i32⟩
  | .hbm, ⟨31, _⟩ => ⟨S2048x8, .i32⟩
  | .hbm, ⟨32, _⟩ => ⟨S2048x8, .i1⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x8, .f32⟩
  | .hbm, ⟨37, _⟩ => ⟨S2048x8, .f32⟩
  | .hbm, ⟨38, _⟩ => ⟨S2048x8, .f32⟩
  | .hbm, ⟨39, _⟩ => ⟨S_, .f32⟩
  | .hbm, ⟨40, _⟩ => ⟨S_, .f32⟩
  | .hbm, ⟨41, _⟩ => ⟨S2048x8, .f32⟩
  | .hbm, ⟨42, _⟩ => ⟨S2048x8, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S2048x8, .f32⟩
  | .hbm, ⟨47, _⟩ => ⟨S2048x8, .f32⟩
  | .hbm, ⟨48, _⟩ => ⟨S2048x8x8, .f32⟩
  | .hbm, ⟨49, _⟩ => ⟨S8, .i32⟩
  | .hbm, ⟨50, _⟩ => ⟨S2048x8x8x1, .f32⟩
  | .hbm, ⟨51, _⟩ => ⟨S2048x8x1x8, .f32⟩
  | .hbm, ⟨52, _⟩ => ⟨S2048x8x8x8, .f32⟩
  | .hbm, ⟨53, _⟩ => ⟨S2048x8x8x8, .f32⟩
  | .hbm, ⟨54, _⟩ => ⟨S2048x8x8x8, .i1⟩
  | .hbm, ⟨55, _⟩ => ⟨S2048x8x8x8, .f32⟩
  | .hbm, ⟨56, _⟩ => ⟨S2048x8x8x8, .f32⟩
  | .hbm, ⟨57, _⟩ => ⟨S2048x8x8x8, .i1⟩
  | .hbm, ⟨58, _⟩ => ⟨S1x8, .i32⟩
  | .hbm, ⟨59, _⟩ => ⟨S8x1, .i32⟩
  | .hbm, ⟨60, _⟩ => ⟨S8x8, .i32⟩
  | .hbm, ⟨61, _⟩ => ⟨S8x8, .i32⟩
  | .hbm, ⟨62, _⟩ => ⟨S8x8, .i1⟩
  | .hbm, ⟨63, _⟩ => ⟨S1x1x8x8, .i1⟩
  | .hbm, ⟨64, _⟩ => ⟨S2048x8x8x8, .i1⟩
  | .hbm, ⟨65, _⟩ => ⟨S2048x8x8x8, .i1⟩
  | .hbm, ⟨66, _⟩ => ⟨S2048x8x8x8, .i1⟩
  | .hbm, ⟨67, _⟩ => ⟨S2048x8x8x8, .i32⟩
  | .hbm, ⟨68, _⟩ => ⟨S_, .i32⟩
  | .hbm, ⟨69, _⟩ => ⟨S2048x8x8, .i32⟩
  | .hbm, ⟨70, _⟩ => ⟨S_, .i32⟩
  | .hbm, ⟨71, _⟩ => ⟨S2048x8x8, .i32⟩
  | .hbm, ⟨72, _⟩ => ⟨S2048x8x8, .i1⟩
  | .hbm, ⟨73, _⟩ => ⟨S_, .f32⟩
  | .hbm, ⟨74, _⟩ => ⟨S2048x8, .f32⟩
  | .hbm, ⟨75, _⟩ => ⟨S2048x8x1, .f32⟩
  | .hbm, ⟨76, _⟩ => ⟨S2048x8x8, .f32⟩
  | .hbm, ⟨77, _⟩ => ⟨S2048x8x8, .f32⟩
  | .hbm, ⟨78, _⟩ => ⟨S2048x8x8, .f32⟩
  | .hbm, ⟨79, _⟩ => ⟨S_, .f32⟩
  | .hbm, ⟨80, _⟩ => ⟨S_, .f32⟩
  | .hbm, ⟨81, _⟩ => ⟨S2048x8x8, .f32⟩
  | .hbm, ⟨82, _⟩ => ⟨S2048x8x8, .f32⟩
  | .hbm, ⟨83, _⟩ => ⟨S_, .f32⟩
  | .hbm, ⟨84, _⟩ => ⟨S2048x8, .f32⟩
  | .hbm, ⟨85, _⟩ => ⟨S2048x8x1, .f32⟩
  | .hbm, ⟨86, _⟩ => ⟨S2048x8x8, .f32⟩
  | .hbm, ⟨87, _⟩ => ⟨S2048x8x8, .f32⟩
  | .hbm, ⟨88, _⟩ => ⟨S2048x8x8x1536, .f32⟩
  | .hbm, ⟨89, _⟩ => ⟨S1x8x8x1536, .f32⟩
  | .hbm, ⟨90, _⟩ => ⟨S2048x8x8x1536, .f32⟩
  | .hbm, ⟨91, _⟩ => ⟨S2048x8x8x1536, .f32⟩
  | .hbm, ⟨92, _⟩ => ⟨S_, .f32⟩
  | .hbm, ⟨93, _⟩ => ⟨S2048x8x8x1536, .f32⟩
  | .hbm, ⟨94, _⟩ => ⟨S2048x8x8x1536, .f32⟩
  | .hbm, ⟨95, _⟩ => ⟨S8x8x768x2048, .f32⟩
  | .hbm, ⟨96, _⟩ => ⟨S2048x8x8x768, .f32⟩
  | .hbm, ⟨97, _⟩ => ⟨S1x8x8x768, .f32⟩
  | .hbm, ⟨98, _⟩ => ⟨S2048x8x8x768, .f32⟩
  | .hbm, ⟨99, _⟩ => ⟨S2048x8x8x768, .f32⟩
  | .hbm, ⟨100, _⟩ => ⟨S2048x8x8x1, .f32⟩
  | .hbm, ⟨101, _⟩ => ⟨S2048x8x8x768, .f32⟩
  | .hbm, ⟨102, _⟩ => ⟨S2048x8x8x768, .f32⟩
  | .hbm, ⟨103, _⟩ => ⟨S_, .f32⟩
  | .hbm, ⟨104, _⟩ => ⟨S2048x8x768, .f32⟩
  | .hbm, ⟨105, _⟩ => ⟨S2048x8x1, .f32⟩
  | .hbm, ⟨106, _⟩ => ⟨S2048x8x768, .f32⟩
  | .hbm, ⟨107, _⟩ => ⟨S2048x8x768, .f32⟩
  | .hbm, ⟨108, _⟩ => ⟨S_, .f32⟩
  | .hbm, ⟨109, _⟩ => ⟨S2048x768, .f32⟩
  | .hbm, ⟨110, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_c_0 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_3 : Ref sig .tc := ⟨.hbm, 68, rfl⟩
abbrev main_v54 : Ref sig .tc := ⟨.hbm, 69, rfl⟩
abbrev main_c_4 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_6 : Ref sig .tc := ⟨.hbm, 79, rfl⟩
abbrev main_call1_v0 : Ref sig .tc := ⟨.hbm, 80, rfl⟩
abbrev main_call1_v1 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call2_cst : Ref sig .tc := ⟨.hbm, 92, rfl⟩
abbrev main_call2_v0 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_8 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_9 : Ref sig .tc := ⟨.hbm, 108, rfl⟩
abbrev main_v84 : Ref sig .tc := ⟨.hbm, 109, rfl⟩
abbrev main_v85 : Ref sig .tc := ⟨.hbm, 110, rfl⟩

abbrev nD : Nat := 1
abbrev τ : Topo := Topo.v7x

variable {F : FTy → Type} [FloatOps F]
-- ==== Proof.FfnBody.lean ====
/-
  The feed-forward call (the second kernel region) as a program logic statement.

  One trip of its block loop turns the accumulator `f` into `ffnTrip … f`; the loop turns it into `ffnAcc … f` at the
  trip count; the body at a grid point starts from zero at the first point and from what the point before left elsewhere,
  so it leaves `ffnOut`.  Stated for any float values.
-/
module

public import proofs.«01_k».proof.Proof.Gen.KernelIdeal.Skeleton
public import Idealize.ShloMosaic.Lib.Exec
public import Idealize.ShloMosaic.Lib.Tactic
public import Idealize.ShloMosaic.Lib.LoopRemainder
public import Idealize.ShloMosaic.Lib.Pipeline.Kit
public import Idealize.ShloMosaic.Lib.Pipeline.Value
public import Idealize.ShloMosaic.Lib.WritesUnit

@[expose] public section

set_option maxRecDepth 8192
set_option maxHeartbeats 400000

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Row `0` or `1` of each expert pair's operand, as the loads of one trip read it. -/
abbrev row3 (r : Fin 2) (x : Vec F S2x1x2048 .i32) : Vec F S1x1x2048 .i32 := match r with
  | 0 => View.ld x (Rect.unit (s := S2x1x2048) ![0, 0, 0] S1x1x2048.size inb_S2x1x2048_S1x1x2048_0_0_0)
  | 1 => View.ld x (Rect.unit (s := S2x1x2048) ![1, 0, 0] S1x1x2048.size inb_S2x1x2048_S1x1x2048_1_0_0)
abbrev row4 (r : Fin 2) (x : Vec F S2x1x2048 .f32) : Vec F S1x1x2048 .f32 := match r with
  | 0 => View.ld x (Rect.unit (s := S2x1x2048) ![0, 0, 0] S1x1x2048.size inb_S2x1x2048_S1x1x2048_0_0_0)
  | 1 => View.ld x (Rect.unit (s := S2x1x2048) ![1, 0, 0] S1x1x2048.size inb_S2x1x2048_S1x1x2048_1_0_0)
abbrev row5 (r : Fin 2) (x : Vec F S2x1536x768 .f32) : Vec F S1x1536x768 .f32 := match r with
  | 0 => View.ld x (Rect.unit (s := S2x1536x768) ![0, 0, 0] S1x1536x768.size inb_S2x1536x768_S1x1536x768_0_0_0)
  | 1 => View.ld x (Rect.unit (s := S2x1536x768) ![1, 0, 0] S1x1536x768.size inb_S2x1536x768_S1x1536x768_1_0_0)
abbrev row6 (r : Fin 2) (x : Vec F S2x1x1536 .f32) : Vec F S1x1x1536 .f32 := match r with
  | 0 => View.ld x (Rect.unit (s := S2x1x1536) ![0, 0, 0] S1x1x1536.size inb_S2x1x1536_S1x1x1536_0_0_0)
  | 1 => View.ld x (Rect.unit (s := S2x1x1536) ![1, 0, 0] S1x1x1536.size inb_S2x1x1536_S1x1x1536_1_0_0)
abbrev row7 (r : Fin 2) (x : Vec F S2x768x1536 .f32) : Vec F S1x768x1536 .f32 := match r with
  | 0 => View.ld x (Rect.unit (s := S2x768x1536) ![0, 0, 0] S1x768x1536.size inb_S2x768x1536_S1x768x1536_0_0_0)
  | 1 => View.ld x (Rect.unit (s := S2x768x1536) ![1, 0, 0] S1x768x1536.size inb_S2x768x1536_S1x768x1536_1_0_0)
abbrev row8 (r : Fin 2) (x : Vec F S2x1x768 .f32) : Vec F S1x1x768 .f32 := match r with
  | 0 => View.ld x (Rect.unit (s := S2x1x768) ![0, 0, 0] S1x1x768.size inb_S2x1x768_S1x1x768_0_0_0)
  | 1 => View.ld x (Rect.unit (s := S2x1x768) ![1, 0, 0] S1x1x768.size inb_S2x1x768_S1x1x768_1_0_0)

/-- What one trip of the block loop leaves in the accumulator it finds at `f`. -/
def ffnTrip (v5 v11 : Elt F .i32) (x2 : Vec F S2048x768 .bf16) (x3 : Vec F S2x1x2048 .i32) (x4 : Vec F S2x1x2048 .f32) (x5 : Vec F S2x1536x768 .f32)
    (x6 : Vec F S2x1x1536 .f32) (x7 : Vec F S2x768x1536 .f32) (x8 : Vec F S2x1x768 .f32)
    (k : Fin (k1_t1_loop v5 v11).trips) (f : Vec F S2048x768 .f32) : Vec F S2048x768 .f32 :=
  k1_pay2 (k1_pay5 v5 v11 0#32 1#32 k (row3 0 x3) (row4 0 x4)) (k1_pay7 v5 v11 0#32 1#32 k (row3 1 x3) (row4 1 x4))
    (k1_pay11 (k1_pay9 v5 v11 0#32 1#32 k (row3 0 x3) (row3 1 x3) x2) (k1_pay10 (row5 0 x5)) (row6 0 x6) (row7 0 x7) (row8 0 x8))
    (k1_pay12 (k1_pay8 v5 v11 0#32 1#32 k (row3 0 x3) (row3 1 x3) x2) (row5 1 x5) (row6 1 x6) (row7 1 x7)) (row8 1 x8) f

/-- The accumulator after the first `n` trips, from `g` at the loop's entry. -/
def ffnAcc (v5 v11 : Elt F .i32) (x2 : Vec F S2048x768 .bf16) (x3 : Vec F S2x1x2048 .i32) (x4 : Vec F S2x1x2048 .f32) (x5 : Vec F S2x1536x768 .f32)
    (x6 : Vec F S2x1x1536 .f32) (x7 : Vec F S2x768x1536 .f32) (x8 : Vec F S2x1x768 .f32)
    (g : Vec F S2048x768 .f32) : ℕ → Vec F S2048x768 .f32
  | 0 => g
  | n + 1 => if h : n < (k1_t1_loop v5 v11).trips then ffnTrip v5 v11 x2 x3 x4 x5 x6 x7 x8 ⟨n, h⟩ (ffnAcc v5 v11 x2 x3 x4 x5 x6 x7 x8 g n)
      else ffnAcc v5 v11 x2 x3 x4 x5 x6 x7 x8 g n

theorem ffnAcc_succ (v5 v11 : Elt F .i32) (x2 : Vec F S2048x768 .bf16) (x3 : Vec F S2x1x2048 .i32) (x4 : Vec F S2x1x2048 .f32) (x5 : Vec F S2x1536x768 .f32)
    (x6 : Vec F S2x1x1536 .f32) (x7 : Vec F S2x768x1536 .f32) (x8 : Vec F S2x1x768 .f32)
    (g : Vec F S2048x768 .f32) (k : Fin (k1_t1_loop v5 v11).trips) :
    ffnAcc v5 v11 x2 x3 x4 x5 x6 x7 x8 g (k.val + 1)
      = ffnTrip v5 v11 x2 x3 x4 x5 x6 x7 x8 k (ffnAcc v5 v11 x2 x3 x4 x5 x6 x7 x8 g k.val) := by
  rw [ffnAcc.eq_2]; exact dif_pos k.isLt

omit [FloatOps F] in
/-- A store of the whole accumulator leaves the stored vector. -/
theorem read_whole_store (v : View sig .tc .vmem S2048x768 .f32) (f : BufTy.Contents (Elt F) v.ty) (w : Vec F S2048x768 .f32)
    (L : List (View.Piece (Elt F) S2048x768 .f32)) :
    v.read (Elt F) (v.writes (Elt F) f
      ((⟨Rect.unit (s := S2048x768) ![0, 0] S2048x768.size inb_S2048x768_S2048x768_0_0, w⟩ : View.Piece (Elt F) S2048x768 .f32) :: L)) = w := by
  funext y
  exact View.read_writes_cons_unit_of_mem v f (off' := ![0, 0]) inb_S2048x768_S2048x768_0_0 w L y y rfl
    (fun a => by fin_cases a <;> simp)

omit [FloatOps F] in
/-- A load of the whole accumulator reads it. -/
theorem readAt_whole {e : EltTy} (v : View sig .tc .vmem S2048x768 e) (f : BufTy.Contents (Elt F) v.ty) :
    v.readAt (Elt F) (Rect.unit (s := S2048x768) ![0, 0] S2048x768.size inb_S2048x768_S2048x768_0_0).toLoadRect f = v.read (Elt F) f :=
  View.ld_unit_zero (by funext a; fin_cases a <;> rfl) inb_S2048x768_S2048x768_0_0 (v.read (Elt F) f)

/-- What the loop holds: its operands as they are, the accumulator reading `w`. -/
abbrev Held (c : Dev nD) (arg2 : Memref sig .tc .vmem S2048x768 .bf16) (arg3 : Memref sig .tc .vmem S2x1x2048 .i32)
    (arg4 : Memref sig .tc .vmem S2x1x2048 .f32) (arg5 : Memref sig .tc .vmem S2x1536x768 .f32) (arg6 : Memref sig .tc .vmem S2x1x1536 .f32)
    (arg7 : Memref sig .tc .vmem S2x768x1536 .f32) (arg8 : Memref sig .tc .vmem S2x1x768 .f32) (arg9 : Memref sig .tc .vmem S2048x768 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (w : Vec F S2048x768 .f32) : sProp 𝕄G :=
  iprop((arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (arg8.view.loc (c : Thread nD τ) ↦[arg8.view.set]{fullShare} X8)
      ∗ (∃ f, (arg9.view.loc (c : Thread nD τ) ↦[arg9.view.set]{fullShare} f) ∗ ⌜arg9.view.read (Elt F) f = w⌝))

/-- ONE TRIP at a symbolic `k`: the accumulator goes from `w` to `ffnTrip … w`. -/
theorem trip (𝒱 : Variants) (c : Dev nD) (bd : Option 𝒱.V) (E : Set ℕ) (i : grid1.Coords) (arg1 : Memref sig .tc .smem S64 .i32) (harg1 : arg1.IsWhole) (arg2 : Memref sig .tc .vmem S2048x768 .bf16) (harg2 : arg2.IsWhole)
    (arg3 : Memref sig .tc .vmem S2x1x2048 .i32) (harg3 : arg3.IsWhole) (arg4 : Memref sig .tc .vmem S2x1x2048 .f32) (harg4 : arg4.IsWhole)
    (arg5 : Memref sig .tc .vmem S2x1536x768 .f32) (harg5 : arg5.IsWhole) (arg6 : Memref sig .tc .vmem S2x1x1536 .f32) (harg6 : arg6.IsWhole)
    (arg7 : Memref sig .tc .vmem S2x768x1536 .f32) (harg7 : arg7.IsWhole) (arg8 : Memref sig .tc .vmem S2x1x768 .f32) (harg8 : arg8.IsWhole)
    (arg9 : Memref sig .tc .vmem S2048x768 .f32) (harg9 : arg9.IsWhole)
    (v5 v11 : Elt F .i32) (hw : k1_chk1 v5 v11) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (k : Fin (k1_t1_loop v5 v11).trips) (w : Vec F S2048x768 .f32) :
    Held c arg2 arg3 arg4 arg5 arg6 arg7 arg8 arg9 X2 X3 X4 X5 X6 X7 X8 w
      ⊢ wp frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 v5 v11 hw k PUnit.unit)
        (fun _ => Held c arg2 arg3 arg4 arg5 arg6 arg7 arg8 arg9 X2 X3 X4 X5 X6 X7 X8
          (ffnTrip v5 v11 (arg2.view.read (Elt F) X2) (arg3.view.read (Elt F) X3) (arg4.view.read (Elt F) X4) (arg5.view.read (Elt F) X5) (arg6.view.read (Elt F) X6) (arg7.view.read (Elt F) X7) (arg8.view.read (Elt F) X8) k w)) := by
  unfold k1_t1_body
  iintro ⟨H2, H3, H4, H5, H6, H7, H8, ⟨%f, H9, %hf⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; isplitl [H9]; · iexact H9
  ipureintro
  rw [read_whole_store, readAt_whole, hf]
  have e2 : View.readAt (Elt F) arg2.view (Rect.unit (s := S2048x768) ![0, 0] S2048x768.size inb_S2048x768_S2048x768_0_0).toLoadRect X2
      = arg2.view.read (Elt F) X2 := readAt_whole arg2.view X2
  rw [← e2]
  rfl

set_option warn.classDefReducibility false in
/-- The loop by its invariant: the accumulator reads `ffnAcc … n` before trip `n`. -/
@[sl_loop] def loopInv (𝒱 : Variants) (c : Dev nD) (bd : Option 𝒱.V) (E : Set ℕ) (i : grid1.Coords) (arg1 : Memref sig .tc .smem S64 .i32) (harg1 : arg1.IsWhole) (arg2 : Memref sig .tc .vmem S2048x768 .bf16) (harg2 : arg2.IsWhole)
    (arg3 : Memref sig .tc .vmem S2x1x2048 .i32) (harg3 : arg3.IsWhole) (arg4 : Memref sig .tc .vmem S2x1x2048 .f32) (harg4 : arg4.IsWhole)
    (arg5 : Memref sig .tc .vmem S2x1536x768 .f32) (harg5 : arg5.IsWhole) (arg6 : Memref sig .tc .vmem S2x1x1536 .f32) (harg6 : arg6.IsWhole)
    (arg7 : Memref sig .tc .vmem S2x768x1536 .f32) (harg7 : arg7.IsWhole) (arg8 : Memref sig .tc .vmem S2x1x768 .f32) (harg8 : arg8.IsWhole)
    (arg9 : Memref sig .tc .vmem S2048x768 .f32) (harg9 : arg9.IsWhole)
    (v5 v11 : Elt F .i32) (hw : k1_chk1 v5 v11) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (G : BufTy.Contents (Elt F) arg9.view.ty) :
    Idealize.ShloMosaic.LoopInv (M := 𝕄G) Idealize.ShloMosaic.frame (wpE (defs₀ (F := F)) 𝒱 (c : Thread nD τ) bd) E
      (k1_t1_loop v5 v11).lb (k1_t1_loop v5 v11).ub (k1_t1_loop v5 v11).st (k1_t1_ok v5 v11 hw) ()
      (k1_t1_body (F := F) i arg1 harg1 arg2 harg2 arg3 harg3 arg4 harg4 arg5 harg5 arg6 harg6 arg7 harg7 arg8 harg8 arg9 harg9 v5 v11 hw) where
  inv n _ := Held c arg2 arg3 arg4 arg5 arg6 arg7 arg8 arg9 X2 X3 X4 X5 X6 X7 X8
    (ffnAcc v5 v11 (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) G) n)
  step k _ := by
    rw [ffnAcc_succ]
    exact trip 𝒱 c bd E i arg1 harg1 arg2 harg2 arg3 harg3 arg4 harg4 arg5 harg5 arg6 harg6 arg7 harg7 arg8 harg8 arg9 harg9 v5 v11 hw X2 X3 X4 X5 X6 X7 X8 k _

/-- The remainder loop makes no trip, and no word the table holds makes either loop ill-formed. -/
theorem chk_all (v5 v11 : BitVec 32) : k1_chk1 v5 v11 := by
  refine ⟨?_, Scf.rem_ok _ _⟩
  have := Affine.word_range (k1_t1_loop v5 v11).ub
  exact Affine.ok (Affine.ofNat 0 ⟨rfl, by decide⟩) (Affine.word _) (Affine.ofNat 1 ⟨rfl, by decide⟩) ⟨by decide, by omega⟩

/-- The two words of the table the body reads at a grid point: the two experts' token counts. -/
def word1 (i : grid1.Coords) (x1 : Vec F S64 .i32) : Elt F .i32 :=
  View.ld x1 (Rect.unit (s := S64) (k1_off1 i) S1.size (k1_off1_inb i)) (Shape.Idx.first (numel1_S1.symm ▸ Nat.one_pos))
def word2 (i : grid1.Coords) (x1 : Vec F S64 .i32) : Elt F .i32 :=
  View.ld x1 (Rect.unit (s := S64) (k1_off2 i) S1.size (k1_off2_inb i)) (Shape.Idx.first (numel1_S1.symm ▸ Nat.one_pos))

/-- Whether a grid point is the first one, as the body's branch tests it. -/
def isFirst (i : grid1.Coords) : Prop :=
  Scalar.cmpi .ne (Scalar.extui (Scalar.cmpi .eq (BitVec.ofNat 32 (i 0).val) 0#32) : BitVec 32) 0#32 = 1#1

instance (i : grid1.Coords) : Decidable (isFirst i) := by unfold isFirst; infer_instance

/-- What the body leaves in the accumulator it finds at `x9`. -/
def ffnOut (i : grid1.Coords) (x1 : Vec F S64 .i32) (x2 : Vec F S2048x768 .bf16) (x3 : Vec F S2x1x2048 .i32) (x4 : Vec F S2x1x2048 .f32) (x5 : Vec F S2x1536x768 .f32)
    (x6 : Vec F S2x1x1536 .f32) (x7 : Vec F S2x768x1536 .f32) (x8 : Vec F S2x1x768 .f32)
    (x9 : Vec F S2048x768 .f32) : Vec F S2048x768 .f32 :=
  ffnAcc (word1 i x1) (word2 i x1) x2 x3 x4 x5 x6 x7 x8 (if isFirst i then k1_pay1 else x9)
    (k1_t1_loop (word1 i x1) (word2 i x1)).trips

/-- THE BODY AT A GRID POINT: the accumulator, zeroed at the first point, goes through the block loop. -/
theorem bodyRun (𝒱 : Variants) (c : Dev nD) (bd : Option 𝒱.V) (E : Set ℕ) (i : grid1.Coords) (arg1 : Memref sig .tc .smem S64 .i32) (harg1 : arg1.IsWhole) (arg2 : Memref sig .tc .vmem S2048x768 .bf16) (harg2 : arg2.IsWhole)
    (arg3 : Memref sig .tc .vmem S2x1x2048 .i32) (harg3 : arg3.IsWhole) (arg4 : Memref sig .tc .vmem S2x1x2048 .f32) (harg4 : arg4.IsWhole)
    (arg5 : Memref sig .tc .vmem S2x1536x768 .f32) (harg5 : arg5.IsWhole) (arg6 : Memref sig .tc .vmem S2x1x1536 .f32) (harg6 : arg6.IsWhole)
    (arg7 : Memref sig .tc .vmem S2x768x1536 .f32) (harg7 : arg7.IsWhole) (arg8 : Memref sig .tc .vmem S2x1x768 .f32) (harg8 : arg8.IsWhole)
    (arg9 : Memref sig .tc .vmem S2048x768 .f32) (harg9 : arg9.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)
    (K : PUnit → sProp 𝕄G) :
    iprop((arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (arg8.view.loc (c : Thread nD τ) ↦[arg8.view.set]{fullShare} X8)
      ∗ (arg9.view.loc (c : Thread nD τ) ↦[arg9.view.set]{fullShare} X9)
      ∗ (((arg1.view.loc (c : Thread nD τ) ↦[arg1.view.set]{fullShare} X1)
        ∗ Held c arg2 arg3 arg4 arg5 arg6 arg7 arg8 arg9 X2 X3 X4 X5 X6 X7 X8
          (ffnOut i (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9))) -∗ K PUnit.unit))
      ⊢ wp frame (wpE (defs₀ (F := F)) 𝒱 (c : Thread nD τ) bd) E (cc1__ffn_kernel (F := F) i arg1 harg1 arg2 harg2 arg3 harg3 arg4 harg4 arg5 harg5 arg6 harg6 arg7 harg7 arg8 harg8 arg9 harg9) K := by
  have hchk := chk_all
  rw [cc1__ffn_kernel_eq_skeleton]; unfold cc1__ffn_kernel_skel
  iintro ⟨H1, H2, H3, H4, H5, H6, H7, H8, H9, HK⟩
  by_cases hz : Scalar.cmpi .ne (Scalar.extui (Scalar.cmpi .eq (BitVec.ofNat 32 (i 0).val) 0#32) : BitVec 32) 0#32 = 1#1
  · sl_exec
    sl_step
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; isplitl [H9]; · iexact H9
    ipureintro
    rw [hL8]
    unfold ffnOut
    rw [if_pos (show isFirst i from hz)]
    have e : arg9.view.read (Elt F) (arg9.view.writes (Elt F) arg9.view.junk bodyRun.sl.H9_1) = k1_pay1 (F := F) := read_whole_store arg9.view _ _ []
    rw [e]
    rfl
  · sl_exec
    sl_step
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; isplitl [H9]; · iexact H9
    ipureintro
    rw [hL8]
    unfold ffnOut
    rw [if_neg (show ¬ isFirst i from hz)]
    rfl

end Cert.KernelIdeal.Ffn

end
-- ==== Proof.RoutingBody.lean ====
/-
  The routing call (the first kernel region): what it computes, at the level of whole vectors, and its body as a program
  logic statement.  The vector functions below name the steps of the kernel: a column's two largest logits, their
  indices and weights, the selected experts of a token, the dense weights, the token ranks and the expert counts.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.Value
public import Idealize.ShloMosaic.Lib.WritesUnit

@[expose] public section

set_option maxRecDepth 8192
set_option maxHeartbeats 400000

noncomputable section

namespace Cert.KernelIdeal.Routing

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## The two largest of a column of eight -/

/-- The largest logit of each column. -/
def colMax (l : FVec F S8x2048 .f32) : FVec F S1x2048 .f32 :=
  shapeCast S1x2048 (multiReduction .maximumf [0] S2048 l 0xFF800000#32 reduces_S8x2048_S2048 (.inl rfl) rfl) shapeCasts_S2048_S1x2048

/-- The row numbers `0 … 7`. -/
def rows8 : IVec S8x2048 32 := iota .tc S8x2048 32 [0] iota_S8x2048_d0_w32

/-- The first row of each column whose logit is `m`. -/
def colArg (l : FVec F S8x2048 .f32) (m : FVec F S1x2048 .f32) : IVec S1x2048 32 :=
  shapeCast S1x2048 (multiReductionI .minsi [0] S2048
    (select (cmpf .oeq l (broadcastTo S8x2048 m broadcasts_S1x2048_S8x2048)) rows8 (broadcast S8x2048 8#32))
    2147483647#32 reduces_S8x2048_S2048 rfl) shapeCasts_S2048_S1x2048

def max1 (l : FVec F S8x2048 .f32) : FVec F S1x2048 .f32 := colMax l
def arg1 (l : FVec F S8x2048 .f32) : IVec S1x2048 32 := colArg l (max1 l)
/-- The logits with the first choice struck out. -/
def rest (l : FVec F S8x2048 .f32) : FVec F S8x2048 .f32 :=
  select (cmpi .eq rows8 (broadcastTo S8x2048 (arg1 l) broadcasts_S1x2048_S8x2048)) (broadcast S8x2048 (Scalar.ofBits .f32 0xFF800000#32)) l
def max2 (l : FVec F S8x2048 .f32) : FVec F S1x2048 .f32 := colMax (rest l)
def arg2 (l : FVec F S8x2048 .f32) : IVec S1x2048 32 := colArg (rest l) (max2 l)
/-- The exponential of second minus first. -/
def gap (l : FVec F S8x2048 .f32) : FVec F S1x2048 .f32 := exp (subf (max2 l) (max1 l))
def ones : FVec F S1x2048 .f32 := broadcast S1x2048 (Scalar.ofBits .f32 0x3F800000#32)
def wgt1 (l : FVec F S8x2048 .f32) : FVec F S1x2048 .f32 := divf ones (addf ones (gap l))
def wgt2 (l : FVec F S8x2048 .f32) : FVec F S1x2048 .f32 := divf (gap l) (addf ones (gap l))

/-! ## Logits -/

/-- The group logits, group by token. -/
def groupLogits (x : Vec F S2048x768 .f32) (w : Vec F S8x768 .f32) : FVec F S8x2048 .f32 :=
  matmul dot_S8x768_S2048x768_S8x2048_1_1_0_0_n_n none w (shapeCast S2048x768 x shapeCasts_S2048x768_S2048x768) (constant S8x2048 .f32 0x00000000#32)

/-- The expert logits, expert by token. -/
def expertLogits (x : Vec F S2048x768 .f32) (w : Vec F S64x768 .f32) : FVec F S64x2048 .f32 :=
  matmul dot_S64x768_S2048x768_S64x2048_1_1_0_0_n_n none (shapeCast S64x768 w shapeCasts_S64x768_S64x768)
    (shapeCast S2048x768 x shapeCasts_S2048x768_S2048x768) (constant S64x2048 .f32 0x00000000#32)

theorem slicesG (g : Fin 8) : S64x2048.Slices ![8 * g.val, 0] S8x2048 := by
  revert g; decide

/-- The eight logits of group `g`. -/
def groupSlice (g : Fin 8) (el : FVec F S64x2048 .f32) : FVec F S8x2048 .f32 :=
  extractStridedSlice S8x2048 ![8 * g.val, 0] el (slicesG g)

/-- One row per group, of a function of the group's logits. -/
def perGroup {α : Type} (f : FVec F S8x2048 .f32 → S1x2048.Idx → α) (el : FVec F S64x2048 .f32) : S8x2048.Idx → α :=
  concatenate S8x2048 0 [⟨S1x2048, f (groupSlice 0 el)⟩, ⟨S1x2048, f (groupSlice 1 el)⟩, ⟨S1x2048, f (groupSlice 2 el)⟩, ⟨S1x2048, f (groupSlice 3 el)⟩, ⟨S1x2048, f (groupSlice 4 el)⟩, ⟨S1x2048, f (groupSlice 5 el)⟩, ⟨S1x2048, f (groupSlice 6 el)⟩, ⟨S1x2048, f (groupSlice 7 el)⟩]
    concatenates_S1x2048_S1x2048_S1x2048_S1x2048_S1x2048_S1x2048_S1x2048_S1x2048_S8x2048_d0

/-! ## The four choices of a token -/

/-- The indicator of row `i`, over eight rows. -/
def onehot8 (i : IVec S1x2048 32) : FVec F S8x2048 .f32 :=
  sitofp .f32 (extui 32 (cmpi .eq rows8 (broadcastTo S8x2048 i broadcasts_S1x2048_S8x2048)) natLt_1_32)

/-- The entry of each column at the indicator's row. -/
def pick (h : FVec F S8x2048 .f32) (v : FVec F S8x2048 .f32) : FVec F S1x2048 .f32 :=
  shapeCast S1x2048 (multiReduction .add [0] S2048 (mulf h v) 0x00000000#32 reduces_S8x2048_S2048 (.inl rfl) rfl) shapeCasts_S2048_S1x2048

/-- The expert number of choice `e` (an entry per group) in group `i`. -/
def selE (i : IVec S1x2048 32) (e : IVec S8x2048 32) : IVec S1x2048 32 :=
  addi (muli i (broadcast S1x2048 8#32)) (fptosi 32 (pick (F := F) (onehot8 i) (sitofp .f32 e)))

/-- The weight of choice `v` (an entry per group) in group `i` of weight `w`. -/
def selW (i : IVec S1x2048 32) (w : FVec F S1x2048 .f32) (v : FVec F S8x2048 .f32) : FVec F S1x2048 .f32 :=
  mulf w (pick (onehot8 i) v)

def rows64 : IVec S64x2048 32 := iota .tc S64x2048 32 [0] iota_S64x2048_d0_w32

/-- The indicator of expert `e`, over the sixty-four experts. -/
def onehot64 (e : IVec S1x2048 32) : FVec F S64x2048 .f32 :=
  sitofp .f32 (extui 32 (cmpi .eq rows64 (broadcastTo S64x2048 e broadcasts_S1x2048_S64x2048)) natLt_1_32)

def zeros64 : FVec F S64x2048 .f32 := broadcast S64x2048 (Scalar.ofBits .f32 0x00000000#32)

section Choices
variable (gl : FVec F S8x2048 .f32) (el : FVec F S64x2048 .f32)

def choiceE : Fin 4 → IVec S1x2048 32
  | 0 => selE (F := F) (arg1 gl) (perGroup arg1 el)
  | 1 => selE (F := F) (arg1 gl) (perGroup arg2 el)
  | 2 => selE (F := F) (arg2 gl) (perGroup arg1 el)
  | 3 => selE (F := F) (arg2 gl) (perGroup arg2 el)

def choiceW : Fin 4 → FVec F S1x2048 .f32
  | 0 => selW (arg1 gl) (wgt1 gl) (perGroup wgt1 el)
  | 1 => selW (arg1 gl) (wgt1 gl) (perGroup wgt2 el)
  | 2 => selW (arg2 gl) (wgt2 gl) (perGroup wgt1 el)
  | 3 => selW (arg2 gl) (wgt2 gl) (perGroup wgt2 el)

/-- Which (expert, token) pairs are selected, as the sum of the four indicators. -/
def hits : FVec F S64x2048 .f32 :=
  addf (addf (addf (addf zeros64 (onehot64 (choiceE gl el 0))) (onehot64 (choiceE gl el 1))) (onehot64 (choiceE gl el 2)))
    (onehot64 (choiceE gl el 3))

def hitW (k : Fin 4) : FVec F S64x2048 .f32 :=
  mulf (onehot64 (choiceE gl el k)) (broadcastTo S64x2048 (choiceW gl el k) broadcasts_S1x2048_S64x2048)

/-- The dense weights, expert by token. -/
def weights : FVec F S64x2048 .f32 :=
  addf (addf (addf (addf zeros64 (hitW gl el 0)) (hitW gl el 1)) (hitW gl el 2)) (hitW gl el 3)

end Choices

/-! ## Ranks and counts -/

/-- The upper triangle, `1` at `(i, j)` for `i ≤ j`. -/
def triu : FVec F S256x256 .f32 :=
  sitofp .f32 (extui 32 (cmpi .sle (iota .tc S256x256 32 [0] iota_S256x256_d0_w32) (iota .tc S256x256 32 [1] iota_S256x256_d1_w32)) natLt_1_32)

theorem slicesC (c : Fin 8) : S64x2048.Slices ![0, 256 * c.val] S64x256 := by
  revert c; decide

/-- The chunk of 256 tokens number `c`. -/
def chunk (c : Fin 8) (nz : FVec F S64x2048 .f32) : FVec F S64x256 .f32 :=
  extractStridedSlice S64x256 ![0, 256 * c.val] nz (slicesC c)

/-- The chunk's running count, the token itself included. -/
def runs (c : Fin 8) (nz : FVec F S64x2048 .f32) : FVec F S64x256 .f32 :=
  matmul dot_S64x256_S256x256_S64x256_1_0_0_1_n_n none (chunk c nz) triu (constant S64x256 .f32 0x00000000#32)

/-- The chunk's whole count. -/
def total (c : Fin 8) (nz : FVec F S64x2048 .f32) : FVec F S64x1 .f32 :=
  extractStridedSlice S64x1 ![0, 255] (runs c nz) slices_S64x256_o0_255_S64x1

/-- The count over the first `n` chunks. -/
def carry (nz : FVec F S64x2048 .f32) : ℕ → FVec F S64x1 .f32
  | 0 => broadcast S64x1 (Scalar.ofBits .f32 0x00000000#32)
  | n + 1 => addf (carry nz n) (total (Fin.ofNat 8 n) nz)

/-- The ranks of the chunk's tokens: how many selected tokens come before, or -1 where the token is not selected. -/
def ranks (c : Fin 8) (nz : FVec F S64x2048 .f32) : IVec S64x256 32 :=
  select (cmpf .ogt (chunk c nz) (broadcast S64x256 (Scalar.ofBits .f32 0x3F000000#32)))
    (fptosi 32 (addf (subf (runs c nz) (chunk c nz)) (broadcastTo S64x256 (carry nz c.val) broadcasts_S64x1_S64x256)))
    (broadcast S64x256 4294967295#32)

/-- A (expert, token) position inside the token's chunk. -/
def inChunk (y : S64x2048.Idx) : S64x256.Idx := fun a => match a with
  | ⟨0, _⟩ => ⟨(y 0).val, (y 0).isLt⟩
  | ⟨1, _⟩ => ⟨(y 1).val % 256, Nat.mod_lt _ (by decide)⟩

/-- All ranks, chunk by chunk. -/
def ofChunks {α : Type} (R : Fin 8 → S64x256.Idx → α) : S64x2048.Idx → α := fun y =>
  R ⟨(y 1).val / 256, by have := (y 1).isLt; change (y 1).val < 2048 at this; omega⟩ (inChunk y)

def rankTable (nz : FVec F S64x2048 .f32) : IVec S64x2048 32 := ofChunks fun c => ranks c nz

/-- The number of tokens of each expert. -/
def counts (nz : FVec F S64x2048 .f32) : IVec S1x64 32 :=
  shapeCast S1x64 (fptosi 32 (carry nz 8)) shapeCasts_S64x1_S1x64

omit [FloatOps F] in
/-- Eight stores of a chunk each leave the table of the chunks. -/
theorem read_chunks (v : View sig .tc .vmem S64x2048 .i32) (f : BufTy.Contents (Elt F) v.ty) (R : Fin 8 → IVec S64x256 32) :
    v.read (Elt F) (v.writes (Elt F) f [
        ⟨Rect.unit (s := S64x2048) ![0, 1792] S64x256.size inb_S64x2048_S64x256_0_1792, R 7⟩,
        ⟨Rect.unit (s := S64x2048) ![0, 1536] S64x256.size inb_S64x2048_S64x256_0_1536, R 6⟩,
        ⟨Rect.unit (s := S64x2048) ![0, 1280] S64x256.size inb_S64x2048_S64x256_0_1280, R 5⟩,
        ⟨Rect.unit (s := S64x2048) ![0, 1024] S64x256.size inb_S64x2048_S64x256_0_1024, R 4⟩,
        ⟨Rect.unit (s := S64x2048) ![0, 768] S64x256.size inb_S64x2048_S64x256_0_768, R 3⟩,
        ⟨Rect.unit (s := S64x2048) ![0, 512] S64x256.size inb_S64x2048_S64x256_0_512, R 2⟩,
        ⟨Rect.unit (s := S64x2048) ![0, 256] S64x256.size inb_S64x2048_S64x256_0_256, R 1⟩,
        ⟨Rect.unit (s := S64x2048) ![0, 0] S64x256.size inb_S64x2048_S64x256_0_0, R 0⟩]) = ofChunks R := by
  funext y
  have hy : (y 1).val < 2048 := (y 1).isLt
  have h : (y 1).val / 256 = 0 ∨ (y 1).val / 256 = 1 ∨ (y 1).val / 256 = 2 ∨ (y 1).val / 256 = 3 ∨ (y 1).val / 256 = 4
      ∨ (y 1).val / 256 = 5 ∨ (y 1).val / 256 = 6 ∨ (y 1).val / 256 = 7 := by omega
  rcases h with h | h | h | h | h | h | h | h
  · rw [View.read_writes_cons_unit_of_not_mem v f (off' := ![0, 1792]) _ _ _ y rfl 1 (Or.inl (by show (y 1).val < 1792; omega))]
    rw [View.read_writes_cons_unit_of_not_mem v f (off' := ![0, 1536]) _ _ _ y rfl 1 (Or.inl (by show (y 1).val < 1536; omega))]
    rw [View.read_writes_cons_unit_of_not_mem v f (off' := ![0, 1280]) _ _ _ y rfl 1 (Or.inl (by show (y 1).val < 1280; omega))]
    rw [View.read_writes_cons_unit_of_not_mem v f (off' := ![0, 1024]) _ _ _ y rfl 1 (Or.inl (by show (y 1).val < 1024; omega))]
    rw [View.read_writes_cons_unit_of_not_mem v f (off' := ![0, 768]) _ _ _ y rfl 1 (Or.inl (by show (y 1).val < 768; omega))]
    rw [View.read_writes_cons_unit_of_not_mem v f (off' := ![0, 512]) _ _ _ y rfl 1 (Or.inl (by show (y 1).val < 512; omega))]
    rw [View.read_writes_cons_unit_of_not_mem v f (off' := ![0, 256]) _ _ _ y rfl 1 (Or.inl (by show (y 1).val < 256; omega))]
    refine (View.read_writes_cons_unit_of_mem v f (off' := ![0, 0]) _ _ _ y (inChunk y) rfl ?_).trans ?_
    · intro a; fin_cases a
      · show (y 0).val = 0 + (y 0).val; omega
      · show (y 1).val = 0 + (y 1).val % 256; omega
    · unfold ofChunks; rw [show (⟨(y 1).val / 256, by omega⟩ : Fin 8) = 0 from Fin.ext h]
  · rw [View.read_writes_cons_unit_of_not_mem v f (off' := ![0, 1792]) _ _ _ y rfl 1 (Or.inl (by show (y 1).val < 1792; omega))]
    rw [View.read_writes_cons_unit_of_not_mem v f (off' := ![0, 1536]) _ _ _ y rfl 1 (Or.inl (by show (y 1).val < 1536; omega))]
    rw [View.read_writes_cons_unit_of_not_mem v f (off' := ![0, 1280]) _ _ _ y rfl 1 (Or.inl (by show (y 1).val < 1280; omega))]
    rw [View.read_writes_cons_unit_of_not_mem v f (off' := ![0, 1024]) _ _ _ y rfl 1 (Or.inl (by show (y 1).val < 1024; omega))]
    rw [View.read_writes_cons_unit_of_not_mem v f (off' := ![0, 768]) _ _ _ y rfl 1 (Or.inl (by show (y 1).val < 768; omega))]
    rw [View.read_writes_cons_unit_of_not_mem v f (off' := ![0, 512]) _ _ _ y rfl 1 (Or.inl (by show (y 1).val < 512; omega))]
    refine (View.read_writes_cons_unit_of_mem v f (off' := ![0, 256]) _ _ _ y (inChunk y) rfl ?_).trans ?_
    · intro a; fin_cases a
      · show (y 0).val = 0 + (y 0).val; omega
      · show (y 1).val = 256 + (y 1).val % 256; omega
    · unfold ofChunks; rw [show (⟨(y 1).val / 256, by omega⟩ : Fin 8) = 1 from Fin.ext h]
  · rw [View.read_writes_cons_unit_of_not_mem v f (off' := ![0, 1792]) _ _ _ y rfl 1 (Or.inl (by show (y 1).val < 1792; omega))]
    rw [View.read_writes_cons_unit_of_not_mem v f (off' := ![0, 1536]) _ _ _ y rfl 1 (Or.inl (by show (y 1).val < 1536; omega))]
    rw [View.read_writes_cons_unit_of_not_mem v f (off' := ![0, 1280]) _ _ _ y rfl 1 (Or.inl (by show (y 1).val < 1280; omega))]
    rw [View.read_writes_cons_unit_of_not_mem v f (off' := ![0, 1024]) _ _ _ y rfl 1 (Or.inl (by show (y 1).val < 1024; omega))]
    rw [View.read_writes_cons_unit_of_not_mem v f (off' := ![0, 768]) _ _ _ y rfl 1 (Or.inl (by show (y 1).val < 768; omega))]
    refine (View.read_writes_cons_unit_of_mem v f (off' := ![0, 512]) _ _ _ y (inChunk y) rfl ?_).trans ?_
    · intro a; fin_cases a
      · show (y 0).val = 0 + (y 0).val; omega
      · show (y 1).val = 512 + (y 1).val % 256; omega
    · unfold ofChunks; rw [show (⟨(y 1).val / 256, by omega⟩ : Fin 8) = 2 from Fin.ext h]
  · rw [View.read_writes_cons_unit_of_not_mem v f (off' := ![0, 1792]) _ _ _ y rfl 1 (Or.inl (by show (y 1).val < 1792; omega))]
    rw [View.read_writes_cons_unit_of_not_mem v f (off' := ![0, 1536]) _ _ _ y rfl 1 (Or.inl (by show (y 1).val < 1536; omega))]
    rw [View.read_writes_cons_unit_of_not_mem v f (off' := ![0, 1280]) _ _ _ y rfl 1 (Or.inl (by show (y 1).val < 1280; omega))]
    rw [View.read_writes_cons_unit_of_not_mem v f (off' := ![0, 1024]) _ _ _ y rfl 1 (Or.inl (by show (y 1).val < 1024; omega))]
    refine (View.read_writes_cons_unit_of_mem v f (off' := ![0, 768]) _ _ _ y (inChunk y) rfl ?_).trans ?_
    · intro a; fin_cases a
      · show (y 0).val = 0 + (y 0).val; omega
      · show (y 1).val = 768 + (y 1).val % 256; omega
    · unfold ofChunks; rw [show (⟨(y 1).val / 256, by omega⟩ : Fin 8) = 3 from Fin.ext h]
  · rw [View.read_writes_cons_unit_of_not_mem v f (off' := ![0, 1792]) _ _ _ y rfl 1 (Or.inl (by show (y 1).val < 1792; omega))]
    rw [View.read_writes_cons_unit_of_not_mem v f (off' := ![0, 1536]) _ _ _ y rfl 1 (Or.inl (by show (y 1).val < 1536; omega))]
    rw [View.read_writes_cons_unit_of_not_mem v f (off' := ![0, 1280]) _ _ _ y rfl 1 (Or.inl (by show (y 1).val < 1280; omega))]
    refine (View.read_writes_cons_unit_of_mem v f (off' := ![0, 1024]) _ _ _ y (inChunk y) rfl ?_).trans ?_
    · intro a; fin_cases a
      · show (y 0).val = 0 + (y 0).val; omega
      · show (y 1).val = 1024 + (y 1).val % 256; omega
    · unfold ofChunks; rw [show (⟨(y 1).val / 256, by omega⟩ : Fin 8) = 4 from Fin.ext h]
  · rw [View.read_writes_cons_unit_of_not_mem v f (off' := ![0, 1792]) _ _ _ y rfl 1 (Or.inl (by show (y 1).val < 1792; omega))]
    rw [View.read_writes_cons_unit_of_not_mem v f (off' := ![0, 1536]) _ _ _ y rfl 1 (Or.inl (by show (y 1).val < 1536; omega))]
    refine (View.read_writes_cons_unit_of_mem v f (off' := ![0, 1280]) _ _ _ y (inChunk y) rfl ?_).trans ?_
    · intro a; fin_cases a
      · show (y 0).val = 0 + (y 0).val; omega
      · show (y 1).val = 1280 + (y 1).val % 256; omega
    · unfold ofChunks; rw [show (⟨(y 1).val / 256, by omega⟩ : Fin 8) = 5 from Fin.ext h]
  · rw [View.read_writes_cons_unit_of_not_mem v f (off' := ![0, 1792]) _ _ _ y rfl 1 (Or.inl (by show (y 1).val < 1792; omega))]
    refine (View.read_writes_cons_unit_of_mem v f (off' := ![0, 1536]) _ _ _ y (inChunk y) rfl ?_).trans ?_
    · intro a; fin_cases a
      · show (y 0).val = 0 + (y 0).val; omega
      · show (y 1).val = 1536 + (y 1).val % 256; omega
    · unfold ofChunks; rw [show (⟨(y 1).val / 256, by omega⟩ : Fin 8) = 6 from Fin.ext h]
  · refine (View.read_writes_cons_unit_of_mem v f (off' := ![0, 1792]) _ _ _ y (inChunk y) rfl ?_).trans ?_
    · intro a; fin_cases a
      · show (y 0).val = 0 + (y 0).val; omega
      · show (y 1).val = 1792 + (y 1).val % 256; omega
    · unfold ofChunks; rw [show (⟨(y 1).val / 256, by omega⟩ : Fin 8) = 7 from Fin.ext h]

omit [FloatOps F] in
theorem read_store3 (v : View sig .tc .vmem S64x2048 .f32) (f : BufTy.Contents (Elt F) v.ty) (w : Vec F S64x2048 .f32) :
    v.read (Elt F) (v.writes (Elt F) f
      [(⟨Rect.unit (s := S64x2048) ![0, 0] S64x2048.size inb_S64x2048_S64x2048_0_0, w⟩ : View.Piece (Elt F) S64x2048 .f32)]) = w := by
  funext y
  exact View.read_writes_cons_unit_of_mem v f (off' := ![0, 0]) inb_S64x2048_S64x2048_0_0 w [] y y rfl
    (fun a => by fin_cases a <;> simp)

omit [FloatOps F] in
theorem read_store5 (v : View sig .tc .vmem S1x64 .i32) (f : BufTy.Contents (Elt F) v.ty) (w : Vec F S1x64 .i32) :
    v.read (Elt F) (v.writes (Elt F) f
      [(⟨Rect.unit (s := S1x64) ![0, 0] S1x64.size inb_S1x64_S1x64_0_0, w⟩ : View.Piece (Elt F) S1x64 .i32)]) = w := by
  funext y
  exact View.read_writes_cons_unit_of_mem v f (off' := ![0, 0]) inb_S1x64_S1x64_0_0 w [] y y rfl
    (fun a => by fin_cases a <;> simp)

omit [FloatOps F] in
theorem readAt0 (v : View sig .tc .vmem S2048x768 .f32) (f : BufTy.Contents (Elt F) v.ty) :
    v.readAt (Elt F) (Rect.unit (s := S2048x768) ![0, 0] S2048x768.size inb_S2048x768_S2048x768_0_0).toLoadRect f = v.read (Elt F) f :=
  View.ld_unit_zero (by funext a; fin_cases a <;> rfl) inb_S2048x768_S2048x768_0_0 (v.read (Elt F) f)

omit [FloatOps F] in
theorem readAt1 (v : View sig .tc .vmem S8x768 .f32) (f : BufTy.Contents (Elt F) v.ty) :
    v.readAt (Elt F) (Rect.unit (s := S8x768) ![0, 0] S8x768.size inb_S8x768_S8x768_0_0).toLoadRect f = v.read (Elt F) f :=
  View.ld_unit_zero (by funext a; fin_cases a <;> rfl) inb_S8x768_S8x768_0_0 (v.read (Elt F) f)

omit [FloatOps F] in
theorem readAt2 (v : View sig .tc .vmem S64x768 .f32) (f : BufTy.Contents (Elt F) v.ty) :
    v.readAt (Elt F) (Rect.unit (s := S64x768) ![0, 0] S64x768.size inb_S64x768_S64x768_0_0).toLoadRect f = v.read (Elt F) f :=
  View.ld_unit_zero (by funext a; fin_cases a <;> rfl) inb_S64x768_S64x768_0_0 (v.read (Elt F) f)

/-! ## The body -/

/-- THE BODY: the three outputs are the dense weights, the ranks and the counts. -/
theorem bodyRun (𝒱 : Variants) (c : Dev nD) (bd : Option 𝒱.V) (E : Set ℕ) (a0 : Memref sig .tc .vmem S2048x768 .f32) (ha0 : a0.IsWhole) (a1 : Memref sig .tc .vmem S8x768 .f32) (ha1 : a1.IsWhole) (a2 : Memref sig .tc .vmem S64x768 .f32) (ha2 : a2.IsWhole) (a3 : Memref sig .tc .vmem S64x2048 .f32) (ha3 : a3.IsWhole) (a4 : Memref sig .tc .vmem S64x2048 .i32) (ha4 : a4.IsWhole) (a5 : Memref sig .tc .vmem S1x64 .i32) (ha5 : a5.IsWhole)
    (X0 : BufTy.Contents (Elt F) a0.view.ty) (X1 : BufTy.Contents (Elt F) a1.view.ty) (X2 : BufTy.Contents (Elt F) a2.view.ty) (X3 : BufTy.Contents (Elt F) a3.view.ty) (X4 : BufTy.Contents (Elt F) a4.view.ty) (X5 : BufTy.Contents (Elt F) a5.view.ty) (K : PUnit → sProp 𝕄G) :
    iprop((a0.view.loc (c : Thread nD τ) ↦[a0.view.set]{fullShare} X0) ∗ (a1.view.loc (c : Thread nD τ) ↦[a1.view.set]{fullShare} X1) ∗ (a2.view.loc (c : Thread nD τ) ↦[a2.view.set]{fullShare} X2) ∗ (a3.view.loc (c : Thread nD τ) ↦[a3.view.set]{fullShare} X3) ∗ (a4.view.loc (c : Thread nD τ) ↦[a4.view.set]{fullShare} X4) ∗ (a5.view.loc (c : Thread nD τ) ↦[a5.view.set]{fullShare} X5)
      ∗ (((a0.view.loc (c : Thread nD τ) ↦[a0.view.set]{fullShare} X0) ∗ (a1.view.loc (c : Thread nD τ) ↦[a1.view.set]{fullShare} X1) ∗ (a2.view.loc (c : Thread nD τ) ↦[a2.view.set]{fullShare} X2)
        ∗ (∃ f, (a3.view.loc (c : Thread nD τ) ↦[a3.view.set]{fullShare} f) ∗ ⌜a3.view.read (Elt F) f = weights (groupLogits (a0.view.read (Elt F) X0) (a1.view.read (Elt F) X1)) (expertLogits (a0.view.read (Elt F) X0) (a2.view.read (Elt F) X2))⌝)
        ∗ (∃ f, (a4.view.loc (c : Thread nD τ) ↦[a4.view.set]{fullShare} f) ∗ ⌜a4.view.read (Elt F) f = rankTable (hits (groupLogits (a0.view.read (Elt F) X0) (a1.view.read (Elt F) X1)) (expertLogits (a0.view.read (Elt F) X0) (a2.view.read (Elt F) X2)))⌝)
        ∗ (∃ f, (a5.view.loc (c : Thread nD τ) ↦[a5.view.set]{fullShare} f) ∗ ⌜a5.view.read (Elt F) f = counts (hits (groupLogits (a0.view.read (Elt F) X0) (a1.view.read (Elt F) X1)) (expertLogits (a0.view.read (Elt F) X0) (a2.view.read (Elt F) X2)))⌝)) -∗ K PUnit.unit))
      ⊢ wp frame (wpE (defs₀ (F := F)) 𝒱 (c : Thread nD τ) bd) E (cc0__routing_kernel (F := F) a0 ha0 a1 ha1 a2 ha2 a3 ha3 a4 ha4 a5 ha5) K := by
  rw [cc0__routing_kernel_eq_skeleton]; unfold cc0__routing_kernel_skel
  iintro ⟨H0, H1, H2, H3, H4, H5, HK⟩
  sl_exec
  sl_step
  iapply HK
  isplitl [H0]; · iexact H0
  isplitl [H1]; · iexact H1
  isplitl [H2]; · iexact H2
  rw [← readAt0 a0.view X0, ← readAt1 a1.view X1, ← readAt2 a2.view X2]
  isplitl [H3]
  · iexists _; isplitl [H3]; · iexact H3
    ipureintro
    exact read_store3 a3.view X3 _
  isplitl [H4]
  · iexists _; isplitl [H4]; · iexact H4
    ipureintro
    exact read_chunks a4.view X4 (fun c => ranks c (hits (groupLogits (View.readAt (Elt F) a0.view (Rect.unit (s := S2048x768) ![0, 0] S2048x768.size inb_S2048x768_S2048x768_0_0).toLoadRect X0) (View.readAt (Elt F) a1.view (Rect.unit (s := S8x768) ![0, 0] S8x768.size inb_S8x768_S8x768_0_0).toLoadRect X1)) (expertLogits (View.readAt (Elt F) a0.view (Rect.unit (s := S2048x768) ![0, 0] S2048x768.size inb_S2048x768_S2048x768_0_0).toLoadRect X0) (View.readAt (Elt F) a2.view (Rect.unit (s := S64x768) ![0, 0] S64x768.size inb_S64x768_S64x768_0_0).toLoadRect X2))))
  · iexists _; isplitl [H5]; · iexact H5
    ipureintro
    exact read_store5 a5.view X5 _

end Cert.KernelIdeal.Routing

end
-- ==== Proof.RunData.lean ====
/-
  The two kernel regions as pieces of the whole program.

  Region 0 (the routing) leaves the weights, the rank table and the counts of `Routing.bodyRun` in its three result arrays;
  region 1 (the feed-forward passes) leaves `acc … 31` — the accumulator after its last grid point — in its one.  The
  program runs host operations, region 0, host operations, region 1, one reshape.  This module holds the proof data of
  the two regions and their body obligations.  Stated for any float values.
-/
module

public import proofs.«01_k».proof.Proof.FfnBody
public import proofs.«01_k».proof.Proof.RoutingBody
public import proofs.«01_k».proof.Proof.Gen.KernelIdeal.Regions
public import Idealize.ShloMosaic.Lib.Pipeline.RegionArraysS
public import Idealize.ShloMosaic.Lib.Pipeline.RegionArraysTS
public import Idealize.ShloMosaic.Lib.Pipeline.ValueKit

@[expose] public section

set_option maxRecDepth 8192
set_option maxHeartbeats 400000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄G" => MT nD τ sig Unit (Elt F) ℕ (UR sig nD τ) ℕ

variable (m : (ℓ : Loc nD τ sig) → Buf (Elt F) ℓ)

/-! ## What region 0 leaves -/

/-- The unscoped buffers when region 0 is entered. -/
@[irreducible] def W1 (c : Dev nD) : Valuation τ sig (Elt F) := V1 m c
theorem W1_eq (c : Dev nD) : W1 m c = V1 m c := by unfold W1; rfl

/-- The group logits and the expert logits of the routing call. -/
@[irreducible] def gl (c : Dev nD) : FVec F S8x2048 .f32 := Routing.groupLogits (W1 m c main_v0) (W1 m c main_arg1)
@[irreducible] def el (c : Dev nD) : FVec F S64x2048 .f32 := Routing.expertLogits (W1 m c main_v0) (W1 m c main_v1)
/-- The three tables the routing call leaves. -/
@[irreducible] def wdt (c : Dev nD) : Vec F S64x2048 .f32 := Routing.weights (gl m c) (el m c)
@[irreducible] def rt (c : Dev nD) : Vec F S64x2048 .i32 := Routing.rankTable (Routing.hits (gl m c) (el m c))
@[irreducible] def cnt (c : Dev nD) : Vec F S1x64 .i32 := Routing.counts (Routing.hits (gl m c) (el m c))

/-- The unscoped buffers after region 0. -/
@[irreducible] def W2 (c : Dev nD) : Valuation τ sig (Elt F) :=
  Function.update (Function.update (Function.update (W1 m c) main_v6_0 (wdt m c)) main_v6_1 (rt m c)) main_v6_2 (cnt m c)
/-- The unscoped buffers when region 1 is entered. -/
@[irreducible] def W3 (c : Dev nD) : Valuation τ sig (Elt F) := StableHlo.after hostOps1 (W2 m c)

/-! ## The prefetched table -/

/-- The table region 1 reads: the counts, on the one device. -/
abbrev tbl : pre1.Contents (Elt F) := fun k => W3 m 0 (pre1.ref k)
abbrev adm : (p : Fin 2) → (pcfgs (F := F) p).Adm
  | ⟨0, _⟩ => cfg0.toPCfg_adm
  | ⟨1, _⟩ => ⟨tbl m, by show ok1 (tbl m); unfold ok1; trivial⟩
  | ⟨_ + 2, h⟩ => absurd h (Nat.not_lt.2 (Nat.le_add_left _ _))
abbrev adm1 : (pcfg1 (F := F)).Adm := adm m 1
abbrev cfgR : Pipeline.Cfg sig Λ₀ := cfg1 (adm1 m)

/-! ## What region 1 leaves -/

/-- The block of window `w` a grid point sees. -/
abbrev blkOf (c : Dev nD) (w : Fin 8) (t : Fin (cfgR m).N) : ((win1 (adm1 m) w).xblock (grid1.coords t)).Idx → Elt F (win1 (adm1 m) w).elt :=
  ((win1 (adm1 m) w).blk t).view.read (Elt F) (W3 m c (Pipeline.arrRef spec1 w))

/-- One grid point: the accumulator found at `x`. -/
@[irreducible] def point (c : Dev nD) (t : Fin (cfgR m).N) (x : Vec F S2048x768 .f32) : Vec F S2048x768 .f32 :=
  Ffn.ffnOut (grid1.coords t) (W3 m c main_v7) (blkOf m c 0 t) (blkOf m c 1 t) (blkOf m c 2 t) (blkOf m c 3 t)
    (blkOf m c 4 t) (blkOf m c 5 t) (blkOf m c 6 t) x

theorem N_R : (cfgR m).N = 32 := N_1

/-- The accumulator after grid point `n`. -/
def acc (c : Dev nD) : ℕ → Vec F S2048x768 .f32
  | 0 => point m c ⟨0, by rw [N_R]; omega⟩ k1_pay1
  | n + 1 => if h : n + 1 < (cfgR m).N then point m c ⟨n + 1, h⟩ (acc c n) else acc c n

/-- The unscoped buffers after region 1. -/
@[irreducible] def W4 (c : Dev nD) : Valuation τ sig (Elt F) := Function.update (W3 m c) main_v13 (acc m c 31)

/-- What the regions leave, as the program's valuations read it. -/
def outs : Outs (F := F) := fun J r c => if J = 2 then W2 m c r else W4 m c r

theorem W2_v6_0 (c : Dev nD) : W2 m c main_v6_0 = wdt m c := by
  unfold W2; rw [Function.update_of_ne (StableHlo.devRef_ne_of_ne (by decide)), Function.update_of_ne (StableHlo.devRef_ne_of_ne (by decide)), Function.update_self]
theorem W2_v6_1 (c : Dev nD) : W2 m c main_v6_1 = rt m c := by
  unfold W2; rw [Function.update_of_ne (StableHlo.devRef_ne_of_ne (by decide)), Function.update_self]
theorem W2_v6_2 (c : Dev nD) : W2 m c main_v6_2 = cnt m c := by
  unfold W2; rw [Function.update_self]
theorem W2_of (c : Dev nD) (b : DevRef τ sig) (h0 : b ≠ Proc.devRef .tc main_v6_0) (h1 : b ≠ Proc.devRef .tc main_v6_1) (h2 : b ≠ Proc.devRef .tc main_v6_2) :
    W2 m c b = W1 m c b := by
  unfold W2; rw [Function.update_of_ne h2, Function.update_of_ne h1, Function.update_of_ne h0]
theorem W4_v13 (c : Dev nD) : W4 m c main_v13 = acc m c 31 := by
  unfold W4; rw [Function.update_self]
theorem W4_of (c : Dev nD) (b : DevRef τ sig) (h : b ≠ Proc.devRef .tc main_v13) : W4 m c b = W3 m c b := by
  unfold W4; rw [Function.update_of_ne h]

theorem V2_eq (c : Dev nD) : V2 m (outs m) c = W2 m c := by
  have h0 : outs m 2 main_v6_0 c = wdt m c := (if_pos rfl).trans (W2_v6_0 m c)
  have h1 : outs m 2 main_v6_1 c = rt m c := (if_pos rfl).trans (W2_v6_1 m c)
  have h2 : outs m 2 main_v6_2 c = cnt m c := (if_pos rfl).trans (W2_v6_2 m c)
  unfold V2; rw [h0, h1, h2, ← W1_eq]; unfold W2; rfl
theorem V3_eq (c : Dev nD) : V3 m (outs m) c = W3 m c := by unfold V3; rw [V2_eq]; unfold W3; rfl
theorem V4_eq (c : Dev nD) : V4 m (outs m) c = W4 m c := by
  have h : outs m 4 main_v13 c = acc m c 31 := (if_neg (by decide)).trans (W4_v13 m c)
  unfold V4; rw [h, V3_eq]; unfold W4; rfl

theorem tbl_eq (c : Dev nD) (k : Fin 1) : tbl m k = W3 m c (Proc.devRef .tc (pre1.ref k)) := by
  have : c = 0 := Subsingleton.elim _ _
  rw [this]

/-! ## The proof data -/

def dat0 (c : Dev nD) : Dat τ (Elt F) Unit ℕ (UR sig nD τ) ℕ cfg0 c where
  A w := W1 m c (Pipeline.arrRef spec0 w)
  after w t := match w with
    | ⟨0, _⟩ => ((cfg0.win 0).blk t).view.read (Elt F) (W1 m c (Pipeline.arrRef spec0 0))
    | ⟨1, _⟩ => ((cfg0.win 1).blk t).view.read (Elt F) (W1 m c (Pipeline.arrRef spec0 1))
    | ⟨2, _⟩ => ((cfg0.win 2).blk t).view.read (Elt F) (W1 m c (Pipeline.arrRef spec0 2))
    | ⟨3, _⟩ => wdt m c
    | ⟨4, _⟩ => rt m c
    | ⟨5, _⟩ => cnt m c
    | ⟨_ + 6, h⟩ => absurd h (Nat.not_lt.2 (Nat.le_add_left _ _))
  Φ _ := iprop(Pipeline.scopedRest (Ix := Unit) (Name := ℕ) (U := UR sig nD τ) (Lvl := ℕ) (Val := Elt F) spec0 c ∗ BI.emp)
  q _ := fullShare
  owed _ := 0

def dat1 (c : Dev nD) : Dat τ (Elt F) Unit ℕ (UR sig nD τ) ℕ (cfgR m) c where
  A w := W3 m c (Pipeline.arrRef spec1 w)
  after w t := match w with
    | ⟨0, _⟩ => blkOf m c 0 t
    | ⟨1, _⟩ => blkOf m c 1 t
    | ⟨2, _⟩ => blkOf m c 2 t
    | ⟨3, _⟩ => blkOf m c 3 t
    | ⟨4, _⟩ => blkOf m c 4 t
    | ⟨5, _⟩ => blkOf m c 5 t
    | ⟨6, _⟩ => blkOf m c 6 t
    | ⟨7, _⟩ => acc m c t.val
    | ⟨_ + 8, h⟩ => absurd h (Nat.not_lt.2 (Nat.le_add_left _ _))
  Φ _ := iprop((Pipeline.scopedRest (Ix := Unit) (Name := ℕ) (U := UR sig nD τ) (Lvl := ℕ) (Val := Elt F) spec1 c ∗ BI.emp)
    ∗ Pipeline.prefHeld pre1 c (fun _ => fullShare) (tbl m))
  q _ := fullShare
  owed _ := 0

abbrev pdats : (p : Fin 2) → (c : Dev nD) → Dat τ (Elt F) Unit ℕ (UR sig nD τ) ℕ (Pipeline.pin (pcfgs (F := F)) (adm m) p) c
  | ⟨0, _⟩ => dat0 m
  | ⟨1, _⟩ => dat1 m
  | ⟨_ + 2, h⟩ => absurd h (Nat.not_lt.2 (Nat.le_add_left _ _))

abbrev 𝒱₀ : Variants := Variants.none

/-! ## Region 0's body -/

/-- The one block of an input window of the routing call is the whole array. -/
theorem read0_0 (X : Vec F S2048x768 .f32) : ((cfg0.win 0).blk t0_0).view.read (Elt F) X = X := by
  funext y; exact congrArg X (funext fun a => Fin.ext (Pipeline.Window.rect_emb_val_of_index_zero (cfg0.win 0) t0_0 a (by fin_cases a <;> rfl) y))
theorem read0_1 (X : Vec F S8x768 .f32) : ((cfg0.win 1).blk t0_0).view.read (Elt F) X = X := by
  funext y; exact congrArg X (funext fun a => Fin.ext (Pipeline.Window.rect_emb_val_of_index_zero (cfg0.win 1) t0_0 a (by fin_cases a <;> rfl) y))
theorem read0_2 (X : Vec F S64x768 .f32) : ((cfg0.win 2).blk t0_0).view.read (Elt F) X = X := by
  funext y; exact congrArg X (funext fun a => Fin.ext (Pipeline.Window.rect_emb_val_of_index_zero (cfg0.win 2) t0_0 a (by fin_cases a <;> rfl) y))

theorem before0_0 (c : Dev nD) (d) : (dat0 m c).before 0 t0_0 d = (W1 m c main_v0 : Vec F S2048x768 .f32) := by
  unfold Dat.before; rw [if_pos (by decide)]; exact read0_0 (F := F) _
theorem before0_1 (c : Dev nD) (d) : (dat0 m c).before 1 t0_0 d = (W1 m c main_arg1 : Vec F S8x768 .f32) := by
  unfold Dat.before; rw [if_pos (by decide)]; exact read0_1 (F := F) _
theorem before0_2 (c : Dev nD) (d) : (dat0 m c).before 2 t0_0 d = (W1 m c main_v1 : Vec F S64x768 .f32) := by
  unfold Dat.before; rw [if_pos (by decide)]; exact read0_2 (F := F) _

theorem body0 (c : Dev nD) : BodyObligation (dat0 m c) (defs₀ (F := F)) 𝒱₀ () Set.univ := fun t => by
  obtain rfl := fin_N0 t
  rw [bigSep_W0, bigSep_W0]
  unfold owns Dat.owesAt Pipeline.owesWithin
  rw [show (dat0 m c).Φ t0_0.castSucc = (dat0 m c).Φ t0_0.succ from rfl]
  rw [show (dat0 m c).owed t0_0.castSucc = 0 from rfl, show (dat0 m c).owed t0_0.succ = 0 from rfl]
  iintro ⟨HΦ, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before0_0] at hf0
  rw [before0_1] at hf1
  rw [before0_2] at hf2
  iapply (Routing.bodyRun 𝒱₀ c none Set.univ ((cfg0.win 0).stage (cfg0.slots t0_0 0)) (hstage0_0 0) ((cfg0.win 1).stage (cfg0.slots t0_0 1)) (hstage0_1 0) ((cfg0.win 2).stage (cfg0.slots t0_0 2)) (hstage0_2 0) ((cfg0.win 3).stage (cfg0.slots t0_0 3)) (hstage0_3 0) ((cfg0.win 4).stage (cfg0.slots t0_0 4)) (hstage0_4 0) ((cfg0.win 5).stage (cfg0.slots t0_0 5)) (hstage0_5 0) f0 f1 f2 f3 f4 f5)
  isplitl [H0]; · iexact H0
  isplitl [H1]; · iexact H1
  isplitl [H2]; · iexact H2
  isplitl [H3]; · iexact H3
  isplitl [H4]; · iexact H4
  isplitl [H5]; · iexact H5
  iintro ⟨H0, H1, H2, ⟨%g3, H3, %h3⟩, ⟨%g4, H4, %h4⟩, ⟨%g5, H5, %h5⟩⟩
  isplitl [HΦ]; · iexact HΦ
  isplitl [HO]
  · iexists W; isplitr; · ipureintro; exact fun _ _ => Or.inl trivial
    iexact HO
  isplitl [H0]
  · iexists f0; isplitr; swap; (· iexact H0); ipureintro; exact hf0.trans (read0_0 (F := F) _).symm
  isplitl [H1]
  · iexists f1; isplitr; swap; (· iexact H1); ipureintro; exact hf1.trans (read0_1 (F := F) _).symm
  isplitl [H2]
  · iexists f2; isplitr; swap; (· iexact H2); ipureintro; exact hf2.trans (read0_2 (F := F) _).symm
  isplitl [H3]
  · iexists g3; isplitr; swap; (· iexact H3); ipureintro; rw [hf0, hf1, hf2] at h3; refine h3.trans ?_; unfold dat0 wdt gl el; rfl
  isplitl [H4]
  · iexists g4; isplitr; swap; (· iexact H4); ipureintro; rw [hf0, hf1, hf2] at h4; refine h4.trans ?_; unfold dat0 rt gl el; rfl
  iexists g5; isplitr; swap; (· iexact H5); ipureintro; rw [hf0, hf1, hf2] at h5; refine h5.trans ?_; unfold dat0 cnt gl el; rfl

/-! ## Region 1's body -/

theorem first_isFirst : Ffn.isFirst (grid1.coords (⟨0, by rw [N_1]; omega⟩ : Fin grid1.N)) := by decide +kernel

theorem acc_succ (c : Dev nD) (t : Fin (cfgR m).N) (ht : t.val ≠ 0) : acc m c t.val = point m c t (acc m c (t.val - 1)) := by
  obtain ⟨n, hn⟩ := t
  obtain _ | n := n
  · exact absurd rfl ht
  · exact dif_pos hn

theorem acc_zero (c : Dev nD) (t : Fin (cfgR m).N) (ht : t.val = 0) (x : Vec F S2048x768 .f32) : acc m c t.val = point m c t x := by
  obtain ⟨n, hn⟩ := t
  obtain rfl : n = 0 := ht
  show point m c _ k1_pay1 = point m c _ x
  unfold point Ffn.ffnOut
  rw [if_pos first_isFirst, if_pos first_isFirst]

attribute [irreducible] acc

theorem before1_in (c : Dev nD) (t : Fin (cfgR m).N) :
    (∀ d, (dat1 m c).before 0 t d = blkOf m c 0 t) ∧ (∀ d, (dat1 m c).before 1 t d = blkOf m c 1 t)
    ∧ (∀ d, (dat1 m c).before 2 t d = blkOf m c 2 t) ∧ (∀ d, (dat1 m c).before 3 t d = blkOf m c 3 t)
    ∧ (∀ d, (dat1 m c).before 4 t d = blkOf m c 4 t) ∧ (∀ d, (dat1 m c).before 5 t d = blkOf m c 5 t)
    ∧ (∀ d, (dat1 m c).before 6 t d = blkOf m c 6 t) := by
  refine ⟨fun d => ?_, fun d => ?_, fun d => ?_, fun d => ?_, fun d => ?_, fun d => ?_, fun d => ?_⟩ <;>
  · rw [Dat.before_in_eq_fetched _ _ rfl (fun _ => rfl) (fun _ _ _ => rfl) (fun _ => rfl)]; rfl

theorem flush7 (t : Fin (cfgR m).N) : (win1 (adm1 m) 7).flush t = decide (t.val + 1 = 32) := by
  unfold Pipeline.Window.flush
  rw [show (win1 (adm1 m) 7).isOut = true from rfl, Bool.true_and,
    decide_eq_false (show ¬ ∃ h : t.val + 1 < grid1.N, (win1 (adm1 m) 7).index ⟨t.val + 1, h⟩ ≠ (win1 (adm1 m) 7).index t from fun ⟨_, h⟩ => h rfl), Bool.or_false]
  exact congrArg (fun n => decide (t.val + 1 = n)) N_1

theorem before1_out (c : Dev nD) (t : Fin (cfgR m).N) (d) : point m c t ((dat1 m c).before 7 t d) = acc m c t.val := by
  by_cases ht : t.val = 0
  · exact (acc_zero m c t ht _).symm
  · rw [acc_succ m c t ht, Dat.before_out_kept (dat1 m c) 7 rfl t ht ?_ (fun _ => rfl) (fun _ _ => rfl)]
    · rfl
    · refine (flush7 m _).trans (decide_eq_false ?_)
      have := t.isLt; have := N_R m
      show ¬ (t.val - 1 + 1 = 32)
      omega

theorem ffn_congr (i : grid1.Coords) (x1 : Vec F S64 .i32) {x2 y2 : Vec F S2048x768 .bf16} {x3 y3 : Vec F S2x1x2048 .i32} {x4 y4 : Vec F S2x1x2048 .f32}
    {x5 y5 : Vec F S2x1536x768 .f32} {x6 y6 : Vec F S2x1x1536 .f32} {x7 y7 : Vec F S2x768x1536 .f32} {x8 y8 : Vec F S2x1x768 .f32} {x9 y9 : Vec F S2048x768 .f32}
    (h2 : x2 = y2) (h3 : x3 = y3) (h4 : x4 = y4) (h5 : x5 = y5) (h6 : x6 = y6) (h7 : x7 = y7) (h8 : x8 = y8) (h9 : x9 = y9) :
    Ffn.ffnOut i x1 x2 x3 x4 x5 x6 x7 x8 x9 = Ffn.ffnOut i x1 y2 y3 y4 y5 y6 y7 y8 y9 := by
  subst h2 h3 h4 h5 h6 h7 h8 h9; rfl

theorem body1 (c : Dev nD) : BodyObligation (dat1 m c) (defs₀ (F := F)) 𝒱₀ () Set.univ := fun t => by
  rw [bigSep_W1, bigSep_W1]
  have hc : c = 0 := Subsingleton.elim _ _
  unfold owns Dat.owesAt Pipeline.owesWithin
  rw [show (dat1 m c).Φ t.castSucc = (dat1 m c).Φ t.succ from rfl]
  rw [show (dat1 m c).owed t.castSucc = 0 from rfl, show (dat1 m c).owed t.succ = 0 from rfl]
  rw [show (dat1 m c).Φ t.succ = iprop((Pipeline.scopedRest (Ix := Unit) (Name := ℕ) (U := UR sig nD τ) (Lvl := ℕ) (Val := Elt F) spec1 c ∗ BI.emp)
    ∗ (((c.tc : Thread nD τ).loc main_v7) ↦{fullShare} W3 m c main_v7)) from by
      subst hc
      show iprop((_ ∗ BI.emp) ∗ Pipeline.prefHeld pre1 0 (fun _ => fullShare) (tbl m)) = _
      unfold Pipeline.prefHeld
      rw [show (Finset.univ : Finset (Fin 1)) = {0} from rfl, bigSep_singleton]
      rfl]
  iintro ⟨⟨HΦ, HT⟩, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩⟩
  obtain ⟨b0, b1, b2, b3, b4, b5, b6⟩ := before1_in m c t
  replace hf0 := hf0.trans (b0 d0)
  replace hf1 := hf1.trans (b1 d1)
  replace hf2 := hf2.trans (b2 d2)
  replace hf3 := hf3.trans (b3 d3)
  replace hf4 := hf4.trans (b4 d4)
  replace hf5 := hf5.trans (b5 d5)
  replace hf6 := hf6.trans (b6 d6)
  iapply (Ffn.bodyRun 𝒱₀ c none Set.univ (grid1.coords t) (Memref.whole main_v7) (Memref.isWhole_whole _) (((cfgR m).win 0).stage ((cfgR m).slots t 0)) (hstage1_0 (((cfgR m).slots t 0).cast nbuf1_0))
    (((cfgR m).win 1).stage ((cfgR m).slots t 1)) (hstage1_1 (((cfgR m).slots t 1).cast nbuf1_1)) (((cfgR m).win 2).stage ((cfgR m).slots t 2)) (hstage1_2 (((cfgR m).slots t 2).cast nbuf1_2))
    (((cfgR m).win 3).stage ((cfgR m).slots t 3)) (hstage1_3 (((cfgR m).slots t 3).cast nbuf1_3)) (((cfgR m).win 4).stage ((cfgR m).slots t 4)) (hstage1_4 (((cfgR m).slots t 4).cast nbuf1_4))
    (((cfgR m).win 5).stage ((cfgR m).slots t 5)) (hstage1_5 (((cfgR m).slots t 5).cast nbuf1_5)) (((cfgR m).win 6).stage ((cfgR m).slots t 6)) (hstage1_6 (((cfgR m).slots t 6).cast nbuf1_6))
    (((cfgR m).win 7).stage ((cfgR m).slots t 7)) (hstage1_7 (((cfgR m).slots t 7).cast nbuf1_7)) (W3 m c main_v7) f0 f1 f2 f3 f4 f5 f6 f7)
  isplitl [HT]; · rw [show (Memref.whole main_v7).view.set = Finset.univ from View.set_whole _]; iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold Ffn.Held
  iintro ⟨HT, H0, H1, H2, H3, H4, H5, H6, ⟨%g7, H7, %h7⟩⟩
  isplitl [HΦ HT]
  · isplitl [HΦ]; · iexact HΦ
    rw [show (Memref.whole main_v7).view.set = Finset.univ from View.set_whole _]; iexact HT
  isplitl [HO]
  · iexists W; isplitr; · ipureintro; exact fun _ _ => Or.inl trivial
    iexact HO
  isplitl [H0]
  · iexists f0; isplitr; swap; (· iexact H0); ipureintro; exact hf0
  isplitl [H1]
  · iexists f1; isplitr; swap; (· iexact H1); ipureintro; exact hf1
  isplitl [H2]
  · iexists f2; isplitr; swap; (· iexact H2); ipureintro; exact hf2
  isplitl [H3]
  · iexists f3; isplitr; swap; (· iexact H3); ipureintro; exact hf3
  isplitl [H4]
  · iexists f4; isplitr; swap; (· iexact H4); ipureintro; exact hf4
  isplitl [H5]
  · iexists f5; isplitr; swap; (· iexact H5); ipureintro; exact hf5
  isplitl [H6]
  · iexists f6; isplitr; swap; (· iexact H6); ipureintro; exact hf6
  iexists g7; isplitr; swap; (· iexact H7); ipureintro
  refine h7.trans (Eq.trans (ffn_congr _ _ hf0 hf1 hf2 hf3 hf4 hf5 hf6 hf7) (Eq.trans ?_ (before1_out m c t d7)))
  unfold point
  rfl

end Cert.KernelIdeal.Run
-- ==== Proof.Segments.lean ====
/-
  The two regions of the program as segments: how each is entered, and what it leaves.

  `after0` and `after1` say what each region leaves in the buffers.  Stated for any float values.
-/
module

public import proofs.«01_k».proof.Proof.RunData
public import Idealize.ShloMosaic.Lib.Pipeline.RegionArraysS
public import Idealize.ShloMosaic.Lib.Pipeline.RegionArraysTS
public import Idealize.ShloMosaic.Lib.Pipeline.ValueKit

@[expose] public section

set_option maxRecDepth 8192
set_option maxHeartbeats 400000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄G" => MT nD τ sig Unit (Elt F) ℕ (UR sig nD τ) ℕ

variable (m : (ℓ : Loc nD τ sig) → Buf (Elt F) ℓ)

/-! ## The regions' results -/

/-- The one point of the routing call writes its three tables whole. -/
theorem arrAt0_3 (c : Dev nD) : (dat0 m c).arrAt 3 cfg0.N = (wdt m c : Vec F S64x2048 .f32) :=
  Dat.arrAt_eq_of_after_last (dat0 m c) 3 t0_0 (by decide +kernel) _ (fun _ => rfl)
theorem arrAt0_4 (c : Dev nD) : (dat0 m c).arrAt 4 cfg0.N = (rt m c : Vec F S64x2048 .i32) :=
  Dat.arrAt_eq_of_after_last (dat0 m c) 4 t0_0 (by decide +kernel) _ (fun _ => rfl)
theorem arrAt0_5 (c : Dev nD) : (dat0 m c).arrAt 5 cfg0.N = (cnt m c : Vec F S1x64 .i32) :=
  Dat.arrAt_eq_of_after_last (dat0 m c) 5 t0_0 (by decide +kernel) _ (fun _ => rfl)

theorem last_lt : 31 < (cfgR m).N := by rw [N_R]; omega

/-- The last point of the feed-forward call writes the accumulator whole. -/
theorem whole7 : ((cfgR m).win 7).WholeAt ⟨31, last_lt m⟩ := by
  refine ⟨(flush7 m _).trans (decide_eq_true rfl), fun t ht => Fin.ext ?_, fun a => ⟨?_, ?_⟩⟩
  · have := of_decide_eq_true ((flush7 m t).symm.trans ht); show t.val = 31; omega
  · fin_cases a <;> rfl
  · fin_cases a <;> rfl
theorem arrAt1_7 (c : Dev nD) : (dat1 m c).arrAt 7 (cfgR m).N = (acc m c 31 : Vec F S2048x768 .f32) :=
  Dat.arrAt_eq_of_after_last (dat1 m c) 7 ⟨31, last_lt m⟩ (whole7 m) _ (fun _ => rfl)

theorem in0 (w : Fin 6) (h3 : w ≠ 3) (h4 : w ≠ 4) (h5 : w ≠ 5) : ((cfg0).win w).isOut = false := by
  fin_cases w <;> first | rfl | exact absurd rfl h3 | exact absurd rfl h4 | exact absurd rfl h5
theorem in1 (w : Fin 8) (hw : w ≠ 7) : ((cfgR m).win w).isOut = false := by
  fin_cases w <;> first | rfl | exact absurd rfl hw

theorem ref0_ne {w v : Fin 6} (h : w ≠ v) : (Proc.devRef .tc (Pipeline.arrRef spec0 w) : DevRef τ sig) ≠ Proc.devRef .tc (Pipeline.arrRef spec0 v) :=
  StableHlo.devRef_ne_of_ne fun e => h (winFacts0.arr_inj e)
theorem ref1_ne {w v : Fin 8} (h : w ≠ v) : (Proc.devRef .tc (Pipeline.arrRef spec1 w) : DevRef τ sig) ≠ Proc.devRef .tc (Pipeline.arrRef spec1 v) :=
  StableHlo.devRef_ne_of_ne fun e => h (winFacts1.arr_inj e)

set_option backward.isDefEq.respectTransparency.types false in
theorem after0 (c : Dev nD) : Pipeline.afterRegion (dat0 m c) (W1 m c) = W2 m c := by
  funext b
  by_cases h : ∃ w : Fin 6, b = Proc.devRef .tc (Pipeline.arrRef spec0 w)
  · obtain ⟨w, rfl⟩ := h
    refine (Pipeline.afterRegion_arr (dat0 m c) (W1 m c) winFacts0.arr_inj w).trans ?_
    by_cases h3 : w = 3
    · subst h3; exact (arrAt0_3 m c).trans (W2_v6_0 m c).symm
    by_cases h4 : w = 4
    · subst h4; exact (arrAt0_4 m c).trans (W2_v6_1 m c).symm
    by_cases h5 : w = 5
    · subst h5; exact (arrAt0_5 m c).trans (W2_v6_2 m c).symm
    · exact ((dat0 m c).arrAt_in w (in0 w h3 h4 h5) _).trans (W2_of m c _ (ref0_ne h3) (ref0_ne h4) (ref0_ne h5)).symm
  · refine (dif_neg h).trans ?_
    exact (W2_of m c b (fun e => h ⟨3, e⟩) (fun e => h ⟨4, e⟩) (fun e => h ⟨5, e⟩)).symm

set_option backward.isDefEq.respectTransparency.types false in
theorem after1 (c : Dev nD) : Pipeline.afterRegion (dat1 m c) (W3 m c) = W4 m c := by
  funext b
  by_cases h : ∃ w : Fin 8, b = Proc.devRef .tc (Pipeline.arrRef spec1 w)
  · obtain ⟨w, rfl⟩ := h
    refine (Pipeline.afterRegion_arr (dat1 m c) (W3 m c) winFacts1.arr_inj w).trans ?_
    by_cases hw : w = 7
    · subst hw
      exact (arrAt1_7 m c).trans (W4_v13 m c).symm
    · exact ((dat1 m c).arrAt_in w (in1 m w hw) _).trans (W4_of m c _ (ref1_ne hw)).symm
  · refine (dif_neg h).trans ?_
    exact (W4_of m c b (fun e => h ⟨7, e⟩)).symm

theorem sub0 : Pipeline.arrRefs (τ := τ) spec0 ⊆ Pipeline.ucRefs τ sig := Pipeline.arrRefs_sub_ucRefs spec0 winFacts0.arr_unscoped
theorem sub1 : Pipeline.arrRefs (τ := τ) spec1 ⊆ Pipeline.ucRefs τ sig := Pipeline.arrRefs_sub_ucRefs spec1 winFacts1.arr_unscoped
theorem subT : Pipeline.tblRefs (τ := τ) pre1 ⊆ Pipeline.ucRefs τ sig := Pipeline.tblRefs_sub_ucRefs pre1 preFacts1.unscoped

/-! ## The regions as segments -/

abbrev L : GSem nD τ sig → Finset Unit := fun g => if g.1.2 = .tc then {()} else ∅
abbrev lv : GSem nD τ sig → Unit → ℕ := fun _ _ => 0

theorem cut (p : Fin 2) : Pipeline.LevelCut (pcfgs (F := F)) (adm m) () L lv p (fun _ => 0) (fun _ => 0) :=
  ⟨fun _ _ _ => by unfold L; rw [if_pos rfl]; exact Finset.mem_singleton_self _, fun _ _ _ => le_refl _, fun _ _ _ h => absurd h (lt_irrefl _)⟩

/-- What rides beside the buffers: the core owes nothing. -/
abbrev Rest (c : Dev nD) : sProp 𝕄G := iprop((∃ Wd, owes (c : Thread nD τ) (0 : CellTallies nD τ sig Unit) Wd) ∗ BI.emp ∗ BI.emp)

theorem share0 (c : Dev nD) (w) : (pdats m 0 c).share w = fullShare := by unfold Dat.share; split <;> rfl
theorem share1 (c : Dev nD) (w) : (pdats m 1 c).share w = fullShare := by unfold Dat.share; split <;> rfl
theorem at0 (c : Dev nD) (w) : (pdats m 0 c).arrAt w 0 = W1 m c (Proc.devRef .tc (Pipeline.arrRef (Pipeline.pin (pcfgs (F := F)) (adm m) 0).spec w)) := rfl
theorem at1 (c : Dev nD) (w) : (pdats m 1 c).arrAt w 0 = W3 m c (Proc.devRef .tc (Pipeline.arrRef (Pipeline.pin (pcfgs (F := F)) (adm m) 1).spec w)) := rfl

/-- The proof data of either region neither take nor leave anything. -/
theorem phi0_in (c : Dev nD) : iprop(Pipeline.scopedRest (Pipeline.pin (pcfgs (F := F)) (adm m) 0).spec c ∗ (BI.emp : sProp 𝕄G)) ⊢ (pdats m 0 c).Φ 0 := .rfl
theorem phi0_out (c : Dev nD) : (pdats m 0 c).Φ (Fin.last (Pipeline.pin (pcfgs (F := F)) (adm m) 0).N) ⊢ iprop(Pipeline.scopedRest (Pipeline.pin (pcfgs (F := F)) (adm m) 0).spec c ∗ (BI.emp : sProp 𝕄G)) := .rfl

theorem phi1_in (c : Dev nD) : iprop(iprop(Pipeline.scopedRest (Pipeline.pin (pcfgs (F := F)) (adm m) 1).spec c ∗ (BI.emp : sProp 𝕄G)) ∗ Pipeline.tablesAt (pcfgs (F := F)) (adm m) 1 c) ⊢ (pdats m 1 c).Φ 0 := .rfl
theorem phi1_out (c : Dev nD) : (pdats m 1 c).Φ (Fin.last (Pipeline.pin (pcfgs (F := F)) (adm m) 1).N) ⊢ iprop(iprop(Pipeline.scopedRest (Pipeline.pin (pcfgs (F := F)) (adm m) 1).spec c ∗ (BI.emp : sProp 𝕄G)) ∗ Pipeline.tablesAt (pcfgs (F := F)) (adm m) 1 c) := .rfl
theorem loose0 (c : Dev nD) : Pipeline.BodyObligationLoose (pdats m 0 c) defs₀ 𝒱₀ () Set.univ := (body0 m c).loose
theorem loose1 (c : Dev nD) : Pipeline.BodyObligationLoose (pdats m 1 c) defs₀ 𝒱₀ () Set.univ := (body1 m c).loose
theorem owed0 (c : Dev nD) (t) : (pdats m 0 c).owed t = 0 := rfl
theorem owed1 (c : Dev nD) (t) : (pdats m 1 c).owed t = 0 := rfl
theorem rec0 (c : Dev nD) : (pdats m 0 c).recorded 0 = Set.univ := rfl
theorem rec1 (c : Dev nD) : (pdats m 1 c).recorded 0 = Set.univ := rfl
theorem K0 : (pcfgs (F := F) 0).pre.K = 0 := rfl

/-- The routing call as a segment. -/
def R0 : RegionSeg (pcfgs (F := F)) (adm m) (pdats m) () defs₀ 𝒱₀ L lv 0 :=
  Pipeline.RegionSeg.ofHeldIn (pcfgs (F := F)) (adm m) (pdats m) () defs₀ 𝒱₀ L lv 0 (fun _ => 0) (Pipeline.ucRefs τ sig)
    (fun _ => BI.emp) (fun _ => BI.emp) launch0 K0 (loose0 m) (owed0 m) (rec0 m) (share0 m)
    (phi0_in m) (phi0_out m) (fun _ => 0) (cut m 0) (fun _ => BI.emp) (W1 m) (at0 m)

/-- The network call as a segment. -/
def R1 : RegionSeg (pcfgs (F := F)) (adm m) (pdats m) () defs₀ 𝒱₀ L lv 1 :=
  Pipeline.RegionSeg.ofHeldInT (pcfgs (F := F)) (adm m) (pdats m) () defs₀ 𝒱₀ L lv 1 (fun _ => 0) (Pipeline.ucRefs τ sig)
    (fun _ => BI.emp) (fun _ => BI.emp) launch1 (loose1 m) (owed1 m) (rec1 m) (share1 m)
    (phi1_in m) (phi1_out m) (fun _ => 0) (cut m 1) (fun _ => BI.emp) (W3 m) (at1 m) (tbl_eq m)

theorem enter0 (c : Dev nD) : iprop(StableHlo.held (c : Thread nD τ) (Pipeline.ucRefs τ sig) (W1 m c) ∗ Rest c) ⊢ (R0 m).pre c :=
  Pipeline.RegionSeg.ofHeldIn_pre (pcs := pcfgs (F := F)) (a := adm m) (pdats := pdats m) (ι := ()) (defs₀ := defs₀) (𝒱₀ := 𝒱₀) (L := L) (lv := lv)
    (p := 0) (D := fun _ => 0) (S := Pipeline.ucRefs τ sig) (X := fun _ => BI.emp) (Y := fun _ => BI.emp) (kit := launch0) (hK := K0)
    (hbody := loose0 m) (howed := owed0 m) (hrec := rec0 m) (hshare := share0 m) (hin := phi0_in m) (hout := phi0_out m)
    (b := fun _ => 0) (hcut := cut m 0) (R := fun _ => BI.emp) (W := W1 m) (hW := at0 m) sub0 c
theorem leave0 (c : Dev nD) : (R0 m).post c ⊢ iprop(StableHlo.held (c : Thread nD τ) (Pipeline.ucRefs τ sig) (Pipeline.afterRegion (pdats m 0 c) (W1 m c)) ∗ Rest c) :=
  Pipeline.RegionSeg.ofHeldIn_post (pcs := pcfgs (F := F)) (a := adm m) (pdats := pdats m) (ι := ()) (defs₀ := defs₀) (𝒱₀ := 𝒱₀) (L := L) (lv := lv)
    (p := 0) (D := fun _ => 0) (S := Pipeline.ucRefs τ sig) (X := fun _ => BI.emp) (Y := fun _ => BI.emp) (kit := launch0) (hK := K0)
    (hbody := loose0 m) (howed := owed0 m) (hrec := rec0 m) (hshare := share0 m) (hin := phi0_in m) (hout := phi0_out m)
    (b := fun _ => 0) (hcut := cut m 0) (R := fun _ => BI.emp) (W := W1 m) (hW := at0 m) sub0 c
theorem enter1 (c : Dev nD) : iprop(StableHlo.held (c : Thread nD τ) (Pipeline.ucRefs τ sig) (W3 m c) ∗ Rest c) ⊢ (R1 m).pre c :=
  Pipeline.RegionSeg.ofHeldInT_pre (pcs := pcfgs (F := F)) (a := adm m) (pdats := pdats m) (ι := ()) (defs₀ := defs₀) (𝒱₀ := 𝒱₀) (L := L) (lv := lv)
    (p := 1) (D := fun _ => 0) (S := Pipeline.ucRefs τ sig) (X := fun _ => BI.emp) (Y := fun _ => BI.emp) (kit := launch1)
    (hbody := loose1 m) (howed := owed1 m) (hrec := rec1 m) (hshare := share1 m) (hin := phi1_in m) (hout := phi1_out m)
    (b := fun _ => 0) (hcut := cut m 1) (R := fun _ => BI.emp) (W := W3 m) (hW := at1 m) (hT := tbl_eq m) sub1 subT c
theorem leave1 (c : Dev nD) : (R1 m).post c ⊢ iprop(StableHlo.held (c : Thread nD τ) (Pipeline.ucRefs τ sig) (Pipeline.afterRegion (pdats m 1 c) (W3 m c)) ∗ Rest c) :=
  Pipeline.RegionSeg.ofHeldInT_post (pcs := pcfgs (F := F)) (a := adm m) (pdats := pdats m) (ι := ()) (defs₀ := defs₀) (𝒱₀ := 𝒱₀) (L := L) (lv := lv)
    (p := 1) (D := fun _ => 0) (S := Pipeline.ucRefs τ sig) (X := fun _ => BI.emp) (Y := fun _ => BI.emp) (kit := launch1)
    (hbody := loose1 m) (howed := owed1 m) (hrec := rec1 m) (hshare := share1 m) (hin := phi1_in m) (hout := phi1_out m)
    (b := fun _ => 0) (hcut := cut m 1) (R := fun _ => BI.emp) (W := W3 m) (hW := at1 m) (hT := tbl_eq m) sub1 subT c

theorem hpre0 (c : Dev nD) : iprop(StableHlo.held (c : Thread nD τ) (Pipeline.ucRefs τ sig) (V1 m c) ∗ Rest c) ⊢ (R0 m).pre c := by
  have h := enter0 m c
  rwa [W1_eq] at h
theorem hpost0 (c : Dev nD) : (R0 m).post c ⊢ iprop(StableHlo.held (c : Thread nD τ) (Pipeline.ucRefs τ sig) (V2 m (outs m) c) ∗ Rest c) := by
  have h := leave0 m c
  rwa [show Pipeline.afterRegion (pdats m 0 c) (W1 m c) = V2 m (outs m) c from (after0 m c).trans (V2_eq m c).symm] at h
theorem hpre1 (c : Dev nD) : iprop(StableHlo.held (c : Thread nD τ) (Pipeline.ucRefs τ sig) (V3 m (outs m) c) ∗ Rest c) ⊢ (R1 m).pre c := by
  have h := enter1 m c
  rwa [← V3_eq] at h
theorem hpost1 (c : Dev nD) : (R1 m).post c ⊢ iprop(StableHlo.held (c : Thread nD τ) (Pipeline.ucRefs τ sig) (V4 m (outs m) c) ∗ Rest c) := by
  have h := leave1 m c
  rwa [show Pipeline.afterRegion (pdats m 1 c) (W3 m c) = V4 m (outs m) c from (after1 m c).trans (V4_eq m c).symm] at h

end Cert.KernelIdeal.Run
-- ==== Proof.Run.lean ====
/-
  The run of the whole program.

  `run_main` states that every run ends, keeps the arguments, brings every counter back to zero and leaves `finalOut` as the
  result.  Stated for any float values.
-/
module

public import proofs.«01_k».proof.Proof.Segments
public import Idealize.ShloMosaic.Lib.Pipeline.RegionArraysS
public import Idealize.ShloMosaic.Lib.Pipeline.RegionArraysTS
public import Idealize.ShloMosaic.Lib.Pipeline.ValueKit

@[expose] public section

set_option maxRecDepth 8192
set_option maxHeartbeats 400000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄G" => MT nD τ sig Unit (Elt F) ℕ (UR sig nD τ) ℕ

variable (m : (ℓ : Loc nD τ sig) → Buf (Elt F) ℓ)

/-! ## The launch -/

/-- The pipelines' algebra is the program's. -/
abbrev EP : Emb (UR sig nD τ) 𝕄G := emb₁

abbrev u₀ : UR sig nD τ := initOf (Pipeline.cells (Pipeline.pin (pcfgs (F := F)) (adm m)) (cellOf_inj (adm m))) (Pipeline.launchToks (Pipeline.pin (pcfgs (F := F)) (adm m)) (cellOf_inj (adm m)))

/-- The program's result: the accumulator's last value, reshaped. -/
def finalOut (c : Dev nD) : Vec F S1x2048x768 .f32 := V5 m (outs m) c main_v14

set_option backward.isDefEq.respectTransparency.types false in
/-- Every run ends with the arguments as launched and the result at `finalOut`. -/
theorem run_main (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v14) = finalOut m c)
      ∧ r.2.sem = fun _ => 0) := by
  refine Pipeline.θ_run_regions_kit_dev_sems (pcfgs (F := F)) (adm m) (pdats m) () (cellOf_inj (adm m)) EP defs₀ 𝒱₀ L lv m ρ main
    (segs m (outs m) 𝒱₀ L lv (fun _ => Rest) () (adm m) (pdats m) (R0 m) (R1 m))
    (fun c Q => by
      rewrite [main_chain c, Seg.run_eq_chain,
        show (segs m (outs m) 𝒱₀ L lv (fun _ => Rest) () (adm m) (pdats m) (R0 m) (R1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g hg => if_neg hg) (fun _ => BI.emp) (u₀ m) ?_
    (T₀ := fun c => iprop(StableHlo.held (c : Thread nD τ) (Pipeline.ucRefs τ sig) (V0 m c) ∗ Rest c))
    (Tₙ := fun c => StableHlo.held (c : Thread nD τ) (Pipeline.ucRefs τ sig) (V5 m (outs m) c))
    (hch := fun c => ⟨.rfl, hpre0 m c, hpost0 m c, hpre1 m c, hpost1 m c, sep_mono .rfl ?_⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
      ∧ s.mem ((c.tc : Thread nD τ).loc main_v14) = finalOut m c)
    (hfin := fun c s' => ?_) (hQ := fun _ h hz => ⟨h, funext fun g => hz g (.inr (regions_no_unscoped g.2))⟩)
  · -- the launch element is the pipelines' own
    iintro Hu
    imodintro
    isplitl [Hu]
    · iapply (show (ownU (u₀ m) : sProp 𝕄G) ⊢ BI.own (EP (u₀ m)) from .rfl)
      iexact Hu
    rw [BI.bigSep_emp_const]; iempintro
  · iintro ⟨H, -⟩
    iexact H
  · refine Pipeline.initEach L lv fun c => ?_
    rw [← Pipeline.unscopedBufs_held (Ix := Unit) (Name := ℕ) (U := UR sig nD τ) (Lvl := ℕ) c (V0 m c)]
    iintro ⟨⟨Hb, -, HO, -⟩, -⟩
    imodintro
    isplitl [Hb]; · iexact Hb
    isplitl [HO]; · iexists _; iexact HO
    isplitr <;> iempintro
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have hm : ∀ r : Ref sig .tc, r.isScoped = false → s'.mem.mem ((c.tc : Thread nD τ).loc r) = V5 m (outs m) c r := fun r hr =>
        h (Proc.devRef .tc r) (Finset.mem_filter.mpr ⟨StableHlo.devRef_mem_tcRefs r, fun h' => Bool.false_ne_true (hr.symm.trans h')⟩)
      exact ⟨⟨(hm main_arg0 rfl).trans (V5_main_arg0 m _ c), (hm main_arg1 rfl).trans (V5_main_arg1 m _ c), (hm main_arg2 rfl).trans (V5_main_arg2 m _ c),
        (hm main_arg3 rfl).trans (V5_main_arg3 m _ c), (hm main_arg4 rfl).trans (V5_main_arg4 m _ c), (hm main_arg5 rfl).trans (V5_main_arg5 m _ c),
        (hm main_arg6 rfl).trans (V5_main_arg6 m _ c)⟩, hm main_v14 rfl⟩
    · iexact HSI

end Cert.KernelIdeal.Run
-- ==== Proof.Ref.lean ====
/-
  The reference as functions of arrays, and its run.

  The reference routes every token twice, over the groups and over each group's experts, runs every expert on every token, and
  adds the outputs up with the product of the two weights.  `out` is that function; `run_main` states that every run of the
  reference's program ends with it, the arguments kept and every counter at zero.  Stated for any float values.
-/
module

public import proofs.«01_k».proof.Proof.Gen.ReferenceIdeal
public import Idealize.ShloMosaic.Lib.StableHlo.Run
public import Idealize.ShloMosaic.Lib.StableHlo.RunRead
public import Idealize.ShloMosaic.Lib.Quiescent

@[expose] public section

set_option maxRecDepth 8192
set_option maxHeartbeats 2000000

noncomputable section

namespace Cert.Proof.Ref

open Cert.ReferenceIdeal Cert.ReferenceIdeal.Gen Cert.ReferenceIdeal.Facts
open Idealize.ShloMosaic Idealize.ShloMosaic.TcCoe Idealize.ShloMosaic.StableHlo Idealize.SL.Sem

variable {F : FTy → Type} [FloatOps F]

/-! ## The function -/

/-- The tokens' logits over the groups. -/
def groupLogits (x : FVec F S2048x768 .f32) (w : FVec F S8x768 .f32) : FVec F S2048x8 .f32 :=
  (Host.dotGeneral dot_S2048x768_S8x768_S2048x8_1_1_0_0_n_n none x w)

/-- Whether the last coordinate's group comes before the middle one's in the order of the token's logits. -/
def groupBefore (l : FVec F S2048x8 .f32) : IVec S2048x8x8 1 :=
  (ori (cmpf .ogt (broadcastInDim S2048x8x8 ![0, 1, 2] bcast_S2048x1x8_S2048x8x8_0_1_2 (broadcastInDim S2048x1x8 ![0, 2]
      bcast_S2048x8_S2048x1x8_0_2 l)) (broadcastInDim S2048x8x8 ![0, 1, 2] bcast_S2048x8x1_S2048x8x8_0_1_2 (broadcastInDim
      S2048x8x1 ![0, 1] bcast_S2048x8_S2048x8x1_0_1 l))) (andi (cmpf .oeq (broadcastInDim S2048x8x8 ![0, 1, 2]
      bcast_S2048x1x8_S2048x8x8_0_1_2 (broadcastInDim S2048x1x8 ![0, 2] bcast_S2048x8_S2048x1x8_0_2 l)) (broadcastInDim
      S2048x8x8 ![0, 1, 2] bcast_S2048x8x1_S2048x8x8_0_1_2 (broadcastInDim S2048x8x1 ![0, 1] bcast_S2048x8_S2048x8x1_0_1 l)))
      (broadcastInDim S2048x8x8 ![0, 1, 2] bcast_S1x8x8_S2048x8x8_0_1_2 (broadcastInDim S1x8x8 ![1, 2] bcast_S8x8_S1x8x8_1_2
      (cmpi .slt (broadcastInDim S8x8 ![0, 1] bcast_S1x8_S8x8_0_1 (broadcastInDim S1x8 ![1] bcast_S8_S1x8_1 (iotaInDim S8 32
      0))) (broadcastInDim S8x8 ![0, 1] bcast_S8x1_S8x8_0_1 (broadcastInDim S8x1 ![0] bcast_S8_S8x1_0 (iotaInDim S8 32 0))))))))

/-- Whether fewer than two groups come before. -/
def groupSelected (b : IVec S2048x8x8 1) : IVec S2048x8 1 :=
  (cmpi .slt (Host.reduce IntOp.addi (extui 32 b natLt_1_32) (constantI S_ 32 0#32) reducesTo_S2048x8x8_S2048x8_d2 h_S_)
      (broadcastInDim S2048x8 ![] bcast_S_S2048x8 (constantI S_ 32 2#32)))

/-- The exponentials of the selected logits less the largest one, zero elsewhere. -/
def groupExp (s : IVec S2048x8 1) (l : FVec F S2048x8 .f32) : FVec F S2048x8 .f32 :=
  (select s (Host.exp (subf l (broadcastInDim S2048x8 ![0, 1] bcast_S2048x1_S2048x8_0_1 (broadcastInDim S2048x1 ![0]
      bcast_S2048_S2048x1_0 (Host.reduce FloatOps.maximumf l (constant S_ .f32 0xFF800000#32) reducesTo_S2048x8_S2048_d1
      h_S_))))) ((broadcastInDim S2048x8 ![] bcast_S_S2048x8) (constant S_ .f32 0x00000000#32)))

/-- The exponentials over their sum. -/
def groupWeights (e : FVec F S2048x8 .f32) : FVec F S2048x8 .f32 :=
  (Host.divf e (broadcastInDim S2048x8 ![0, 1] bcast_S2048x1_S2048x8_0_1 (broadcastInDim S2048x1 ![0] bcast_S2048_S2048x1_0
      (Host.reduceAdd e (constant S_ .f32 0x00000000#32) reducesTo_S2048x8_S2048_d1 h_S_))))

/-- The tokens' logits over each group's experts. -/
def expertLogits (x : FVec F S2048x768 .f32) (w : FVec F S8x8x768 .f32) : FVec F S2048x8x8 .f32 :=
  (Host.dotGeneral dot_S2048x768_S8x8x768_S2048x8x8_1_2_0_01_n_n none x w)

/-- The order of a token's logits within one group. -/
def expertBefore (l : FVec F S2048x8x8 .f32) : IVec S2048x8x8x8 1 :=
  (ori (cmpf .ogt (broadcastInDim S2048x8x8x8 ![0, 1, 2, 3] bcast_S2048x8x1x8_S2048x8x8x8_0_1_2_3 (broadcastInDim S2048x8x1x8
      ![0, 1, 3] bcast_S2048x8x8_S2048x8x1x8_0_1_3 l)) (broadcastInDim S2048x8x8x8 ![0, 1, 2, 3]
      bcast_S2048x8x8x1_S2048x8x8x8_0_1_2_3 (broadcastInDim S2048x8x8x1 ![0, 1, 2] bcast_S2048x8x8_S2048x8x8x1_0_1_2 l))) (andi
      (cmpf .oeq (broadcastInDim S2048x8x8x8 ![0, 1, 2, 3] bcast_S2048x8x1x8_S2048x8x8x8_0_1_2_3 (broadcastInDim S2048x8x1x8
      ![0, 1, 3] bcast_S2048x8x8_S2048x8x1x8_0_1_3 l)) (broadcastInDim S2048x8x8x8 ![0, 1, 2, 3]
      bcast_S2048x8x8x1_S2048x8x8x8_0_1_2_3 (broadcastInDim S2048x8x8x1 ![0, 1, 2] bcast_S2048x8x8_S2048x8x8x1_0_1_2 l)))
      (broadcastInDim S2048x8x8x8 ![0, 1, 2, 3] bcast_S1x1x8x8_S2048x8x8x8_0_1_2_3 (broadcastInDim S1x1x8x8 ![2, 3]
      bcast_S8x8_S1x1x8x8_2_3 (cmpi .slt (broadcastInDim S8x8 ![0, 1] bcast_S1x8_S8x8_0_1 (broadcastInDim S1x8 ![1]
      bcast_S8_S1x8_1 (iotaInDim S8 32 0))) (broadcastInDim S8x8 ![0, 1] bcast_S8x1_S8x8_0_1 (broadcastInDim S8x1 ![0]
      bcast_S8_S8x1_0 (iotaInDim S8 32 0))))))))

/-- Whether fewer than two experts of the group come before. -/
def expertSelected (b : IVec S2048x8x8x8 1) : IVec S2048x8x8 1 :=
  (cmpi .slt (Host.reduce IntOp.addi (extui 32 b natLt_1_32) (constantI S_ 32 0#32) reducesTo_S2048x8x8x8_S2048x8x8_d3 h_S_)
      (broadcastInDim S2048x8x8 ![] bcast_S_S2048x8x8 (constantI S_ 32 2#32)))

/-- The exponentials of the selected logits less the group's largest one, zero elsewhere. -/
def expertExp (s : IVec S2048x8x8 1) (l : FVec F S2048x8x8 .f32) : FVec F S2048x8x8 .f32 :=
  (select s (Host.exp (subf l (broadcastInDim S2048x8x8 ![0, 1, 2] bcast_S2048x8x1_S2048x8x8_0_1_2 (broadcastInDim S2048x8x1
      ![0, 1] bcast_S2048x8_S2048x8x1_0_1 (Host.reduce FloatOps.maximumf l (constant S_ .f32 0xFF800000#32)
      reducesTo_S2048x8x8_S2048x8_d2 h_S_))))) ((broadcastInDim S2048x8x8 ![] bcast_S_S2048x8x8) (constant S_ .f32
      0x00000000#32)))

/-- The exponentials over their sum within the group. -/
def expertWeights (e : FVec F S2048x8x8 .f32) : FVec F S2048x8x8 .f32 :=
  (Host.divf e (broadcastInDim S2048x8x8 ![0, 1, 2] bcast_S2048x8x1_S2048x8x8_0_1_2 (broadcastInDim S2048x8x1 ![0, 1]
      bcast_S2048x8_S2048x8x1_0_1 (Host.reduceAdd e (constant S_ .f32 0x00000000#32) reducesTo_S2048x8x8_S2048x8_d2 h_S_))))

/-- Every expert's hidden layer at every token. -/
def hidden (x : FVec F S2048x768 .f32) (w1 : FVec F S8x8x1536x768 .f32) (b1 : FVec F S8x8x1536 .f32) : FVec F S2048x8x8x1536
    .f32 :=
  (maximumf (addf (Host.dotGeneral dot_S2048x768_S8x8x1536x768_S2048x8x8x1536_1_3_0_012_n_n none x w1) (broadcastInDim
      S2048x8x8x1536 ![0, 1, 2, 3] bcast_S1x8x8x1536_S2048x8x8x1536_0_1_2_3 (broadcastInDim S1x8x8x1536 ![1, 2, 3]
      bcast_S8x8x1536_S1x8x8x1536_1_2_3 b1))) ((broadcastInDim S2048x8x8x1536 ![] bcast_S_S2048x8x8x1536) (constant S_ .f32
      0x00000000#32)))

/-- Every expert's output at every token. -/
def experts (h : FVec F S2048x8x8x1536 .f32) (w2 : FVec F S8x8x768x1536 .f32) (b2 : FVec F S8x8x768 .f32) : FVec F
    S2048x8x8x768 .f32 :=
  (addf (transpose S2048x8x8x768 [3, 0, 1, 2] (Host.dotGeneral dot_S8x8x768x1536_S2048x8x8x1536_S8x8x768x2048_3_3_2_0_01_12
      none w2 h) transposes_S8x8x768x2048_S2048x8x8x768_3_0_1_2) (broadcastInDim S2048x8x8x768 ![0, 1, 2, 3]
      bcast_S1x8x8x768_S2048x8x8x768_0_1_2_3 (broadcastInDim S1x8x8x768 ![1, 2, 3] bcast_S8x8x768_S1x8x8x768_1_2_3 b2)))

/-- The two weighted sums. -/
def mixed (gw : FVec F S2048x8 .f32) (ew : FVec F S2048x8x8 .f32) (y : FVec F S2048x8x8x768 .f32) : FVec F S2048x768 .f32 :=
  (Host.reduceAdd (mulf (broadcastInDim S2048x8x768 ![0, 1, 2] bcast_S2048x8x1_S2048x8x768_0_1_2 (broadcastInDim S2048x8x1 ![0,
      1] bcast_S2048x8_S2048x8x1_0_1 gw)) (Host.reduceAdd (mulf (broadcastInDim S2048x8x8x768 ![0, 1, 2, 3]
      bcast_S2048x8x8x1_S2048x8x8x768_0_1_2_3 (broadcastInDim S2048x8x8x1 ![0, 1, 2] bcast_S2048x8x8_S2048x8x8x1_0_1_2 ew)) y)
      (constant S_ .f32 0x00000000#32) reducesTo_S2048x8x8x768_S2048x8x768_d2 h_S_)) (constant S_ .f32 0x00000000#32)
      reducesTo_S2048x8x768_S2048x768_d1 h_S_)

/-- The result from the tokens as a matrix. -/
def flat (x : FVec F S2048x768 .f32) (g : FVec F S8x768 .f32) (gg : FVec F S8x8x768 .f32) (w1 : FVec F S8x8x1536x768 .f32)
    (b1 : FVec F S8x8x1536 .f32) (w2 : FVec F S8x8x768x1536 .f32) (b2 : FVec F S8x8x768 .f32) : FVec F S2048x768 .f32 :=
  mixed (groupWeights (groupExp (groupSelected (groupBefore (groupLogits x g))) (groupLogits x g)))
    (expertWeights (expertExp (expertSelected (expertBefore (expertLogits x gg))) (expertLogits x gg)))
    (experts (hidden x w1 b1) w2 b2)

/-- The result. -/
def out (x : FVec F S1x2048x768 .f32) (g : FVec F S8x768 .f32) (gg : FVec F S8x8x768 .f32) (w1 : FVec F S8x8x1536x768 .f32)
    (b1 : FVec F S8x8x1536 .f32) (w2 : FVec F S8x8x768x1536 .f32) (b2 : FVec F S8x8x768 .f32) : FVec F S1x2048x768 .f32 :=
  shapeCast S1x2048x768 (flat (shapeCast S2048x768 x shapeCasts_S1x2048x768_S2048x768) g gg w1 b1 w2 b2)
    shapeCasts_S2048x768_S1x2048x768

/-! ## The run -/

/-- The program's operations, in order. -/
abbrev ops : List (HloOp τ sig (Elt F)) :=
  [ reshape main_arg0 main_v0 (rfl : (.f32 : EltTy) = .f32) shapeCasts_S1x2048x768_S2048x768,
    binary main_v0 main_arg1 main_v1 ((fun l r => Host.dotGeneral dot_S2048x768_S8x768_S2048x8_1_1_0_0_n_n none l r) :
        (⟨S2048x768, .f32⟩ : BufTy).Contents (Elt F) → (⟨S8x768, .f32⟩ : BufTy).Contents (Elt F) → (⟨S2048x8, .f32⟩ :
        BufTy).Contents (Elt F)),
    nullary main_v2 (iotaInDim S8 32 0),
    unary main_v1 main_v3 (broadcastInDim S2048x8x1 ![0, 1] bcast_S2048x8_S2048x8x1_0_1 : (⟨S2048x8, .f32⟩ : BufTy).Contents
        (Elt F) → (⟨S2048x8x1, .f32⟩ : BufTy).Contents (Elt F)),
    unary main_v1 main_v4 (broadcastInDim S2048x1x8 ![0, 2] bcast_S2048x8_S2048x1x8_0_2 : (⟨S2048x8, .f32⟩ : BufTy).Contents
        (Elt F) → (⟨S2048x1x8, .f32⟩ : BufTy).Contents (Elt F)),
    unary main_v4 main_v5 (broadcastInDim S2048x8x8 ![0, 1, 2] bcast_S2048x1x8_S2048x8x8_0_1_2 : (⟨S2048x1x8, .f32⟩ :
        BufTy).Contents (Elt F) → (⟨S2048x8x8, .f32⟩ : BufTy).Contents (Elt F)),
    unary main_v3 main_v6 (broadcastInDim S2048x8x8 ![0, 1, 2] bcast_S2048x8x1_S2048x8x8_0_1_2 : (⟨S2048x8x1, .f32⟩ :
        BufTy).Contents (Elt F) → (⟨S2048x8x8, .f32⟩ : BufTy).Contents (Elt F)),
    binary main_v5 main_v6 main_v7 (cmpf .ogt : (⟨S2048x8x8, .f32⟩ : BufTy).Contents (Elt F) → (⟨S2048x8x8, .f32⟩ :
        BufTy).Contents (Elt F) → (⟨S2048x8x8, .i1⟩ : BufTy).Contents (Elt F)),
    unary main_v4 main_v8 (broadcastInDim S2048x8x8 ![0, 1, 2] bcast_S2048x1x8_S2048x8x8_0_1_2 : (⟨S2048x1x8, .f32⟩ :
        BufTy).Contents (Elt F) → (⟨S2048x8x8, .f32⟩ : BufTy).Contents (Elt F)),
    unary main_v3 main_v9 (broadcastInDim S2048x8x8 ![0, 1, 2] bcast_S2048x8x1_S2048x8x8_0_1_2 : (⟨S2048x8x1, .f32⟩ :
        BufTy).Contents (Elt F) → (⟨S2048x8x8, .f32⟩ : BufTy).Contents (Elt F)),
    binary main_v8 main_v9 main_v10 (cmpf .oeq : (⟨S2048x8x8, .f32⟩ : BufTy).Contents (Elt F) → (⟨S2048x8x8, .f32⟩ :
        BufTy).Contents (Elt F) → (⟨S2048x8x8, .i1⟩ : BufTy).Contents (Elt F)),
    unary main_v2 main_v11 (broadcastInDim S1x8 ![1] bcast_S8_S1x8_1 : (⟨S8, .i32⟩ : BufTy).Contents (Elt F) → (⟨S1x8, .i32⟩ :
        BufTy).Contents (Elt F)),
    unary main_v2 main_v12 (broadcastInDim S8x1 ![0] bcast_S8_S8x1_0 : (⟨S8, .i32⟩ : BufTy).Contents (Elt F) → (⟨S8x1, .i32⟩ :
        BufTy).Contents (Elt F)),
    unary main_v11 main_v13 (broadcastInDim S8x8 ![0, 1] bcast_S1x8_S8x8_0_1 : (⟨S1x8, .i32⟩ : BufTy).Contents (Elt F) →
        (⟨S8x8, .i32⟩ : BufTy).Contents (Elt F)),
    unary main_v12 main_v14 (broadcastInDim S8x8 ![0, 1] bcast_S8x1_S8x8_0_1 : (⟨S8x1, .i32⟩ : BufTy).Contents (Elt F) →
        (⟨S8x8, .i32⟩ : BufTy).Contents (Elt F)),
    binary main_v13 main_v14 main_v15 (cmpi .slt : (⟨S8x8, .i32⟩ : BufTy).Contents (Elt F) → (⟨S8x8, .i32⟩ : BufTy).Contents
        (Elt F) → (⟨S8x8, .i1⟩ : BufTy).Contents (Elt F)),
    unary main_v15 main_v16 (broadcastInDim S1x8x8 ![1, 2] bcast_S8x8_S1x8x8_1_2 : (⟨S8x8, .i1⟩ : BufTy).Contents (Elt F) →
        (⟨S1x8x8, .i1⟩ : BufTy).Contents (Elt F)),
    unary main_v16 main_v17 (broadcastInDim S2048x8x8 ![0, 1, 2] bcast_S1x8x8_S2048x8x8_0_1_2 : (⟨S1x8x8, .i1⟩ :
        BufTy).Contents (Elt F) → (⟨S2048x8x8, .i1⟩ : BufTy).Contents (Elt F)),
    binary main_v10 main_v17 main_v18 (andi : (⟨S2048x8x8, .i1⟩ : BufTy).Contents (Elt F) → (⟨S2048x8x8, .i1⟩ : BufTy).Contents
        (Elt F) → (⟨S2048x8x8, .i1⟩ : BufTy).Contents (Elt F)),
    binary main_v7 main_v18 main_v19 (ori : (⟨S2048x8x8, .i1⟩ : BufTy).Contents (Elt F) → (⟨S2048x8x8, .i1⟩ : BufTy).Contents
        (Elt F) → (⟨S2048x8x8, .i1⟩ : BufTy).Contents (Elt F)),
    unary main_v19 main_v20 ((extui 32 · natLt_1_32) : (⟨S2048x8x8, .i1⟩ : BufTy).Contents (Elt F) → (⟨S2048x8x8, .i32⟩ :
        BufTy).Contents (Elt F)),
    nullary main_c (constantI S_ 32 0#32),
    binary main_v20 main_c main_v21 ((fun x v => Host.reduce IntOp.addi x v reducesTo_S2048x8x8_S2048x8_d2 h_S_) : (⟨S2048x8x8,
        .i32⟩ : BufTy).Contents (Elt F) → (⟨S_, .i32⟩ : BufTy).Contents (Elt F) → (⟨S2048x8, .i32⟩ : BufTy).Contents (Elt F)),
    nullary main_c_0 (constantI S_ 32 2#32),
    unary main_c_0 main_v22 (broadcastInDim S2048x8 ![] bcast_S_S2048x8 : (⟨S_, .i32⟩ : BufTy).Contents (Elt F) → (⟨S2048x8,
        .i32⟩ : BufTy).Contents (Elt F)),
    binary main_v21 main_v22 main_v23 (cmpi .slt : (⟨S2048x8, .i32⟩ : BufTy).Contents (Elt F) → (⟨S2048x8, .i32⟩ :
        BufTy).Contents (Elt F) → (⟨S2048x8, .i1⟩ : BufTy).Contents (Elt F)),
    nullary main_cst (constant S_ .f32 0xFF800000#32),
    binary main_v1 main_cst main_v24 ((fun x v => Host.reduce FloatOps.maximumf x v reducesTo_S2048x8_S2048_d1 h_S_) :
        (⟨S2048x8, .f32⟩ : BufTy).Contents (Elt F) → (⟨S_, .f32⟩ : BufTy).Contents (Elt F) → (⟨S2048, .f32⟩ : BufTy).Contents
        (Elt F)),
    unary main_v24 main_v25 (broadcastInDim S2048x1 ![0] bcast_S2048_S2048x1_0 : (⟨S2048, .f32⟩ : BufTy).Contents (Elt F) →
        (⟨S2048x1, .f32⟩ : BufTy).Contents (Elt F)),
    unary main_v25 main_v26 (broadcastInDim S2048x8 ![0, 1] bcast_S2048x1_S2048x8_0_1 : (⟨S2048x1, .f32⟩ : BufTy).Contents (Elt
        F) → (⟨S2048x8, .f32⟩ : BufTy).Contents (Elt F)),
    binary main_v1 main_v26 main_v27 (subf : (⟨S2048x8, .f32⟩ : BufTy).Contents (Elt F) → (⟨S2048x8, .f32⟩ : BufTy).Contents
        (Elt F) → (⟨S2048x8, .f32⟩ : BufTy).Contents (Elt F)),
    unary main_v27 main_v28 (Host.exp : (⟨S2048x8, .f32⟩ : BufTy).Contents (Elt F) → (⟨S2048x8, .f32⟩ : BufTy).Contents (Elt
        F)),
    nullary main_cst_1 (constant S_ .f32 0x00000000#32),
    unary main_cst_1 main_call0_v0 id,
    unary main_call0_v0 main_call0_v1 (broadcastInDim S2048x8 ![] bcast_S_S2048x8),
    ternary main_v23 main_v28 main_call0_v1 main_v29 select,
    nullary main_cst_2 (constant S_ .f32 0x00000000#32),
    binary main_v29 main_cst_2 main_v30 ((fun x v => Host.reduceAdd x v reducesTo_S2048x8_S2048_d1 h_S_) : (⟨S2048x8, .f32⟩ :
        BufTy).Contents (Elt F) → (⟨S_, .f32⟩ : BufTy).Contents (Elt F) → (⟨S2048, .f32⟩ : BufTy).Contents (Elt F)),
    unary main_v30 main_v31 (broadcastInDim S2048x1 ![0] bcast_S2048_S2048x1_0 : (⟨S2048, .f32⟩ : BufTy).Contents (Elt F) →
        (⟨S2048x1, .f32⟩ : BufTy).Contents (Elt F)),
    unary main_v31 main_v32 (broadcastInDim S2048x8 ![0, 1] bcast_S2048x1_S2048x8_0_1 : (⟨S2048x1, .f32⟩ : BufTy).Contents (Elt
        F) → (⟨S2048x8, .f32⟩ : BufTy).Contents (Elt F)),
    binary main_v29 main_v32 main_v33 (Host.divf : (⟨S2048x8, .f32⟩ : BufTy).Contents (Elt F) → (⟨S2048x8, .f32⟩ :
        BufTy).Contents (Elt F) → (⟨S2048x8, .f32⟩ : BufTy).Contents (Elt F)),
    binary main_v0 main_arg2 main_v34 ((fun l r => Host.dotGeneral dot_S2048x768_S8x8x768_S2048x8x8_1_2_0_01_n_n none l r) :
        (⟨S2048x768, .f32⟩ : BufTy).Contents (Elt F) → (⟨S8x8x768, .f32⟩ : BufTy).Contents (Elt F) → (⟨S2048x8x8, .f32⟩ :
        BufTy).Contents (Elt F)),
    nullary main_v35 (iotaInDim S8 32 0),
    unary main_v34 main_v36 (broadcastInDim S2048x8x8x1 ![0, 1, 2] bcast_S2048x8x8_S2048x8x8x1_0_1_2 : (⟨S2048x8x8, .f32⟩ :
        BufTy).Contents (Elt F) → (⟨S2048x8x8x1, .f32⟩ : BufTy).Contents (Elt F)),
    unary main_v34 main_v37 (broadcastInDim S2048x8x1x8 ![0, 1, 3] bcast_S2048x8x8_S2048x8x1x8_0_1_3 : (⟨S2048x8x8, .f32⟩ :
        BufTy).Contents (Elt F) → (⟨S2048x8x1x8, .f32⟩ : BufTy).Contents (Elt F)),
    unary main_v37 main_v38 (broadcastInDim S2048x8x8x8 ![0, 1, 2, 3] bcast_S2048x8x1x8_S2048x8x8x8_0_1_2_3 : (⟨S2048x8x1x8,
        .f32⟩ : BufTy).Contents (Elt F) → (⟨S2048x8x8x8, .f32⟩ : BufTy).Contents (Elt F)),
    unary main_v36 main_v39 (broadcastInDim S2048x8x8x8 ![0, 1, 2, 3] bcast_S2048x8x8x1_S2048x8x8x8_0_1_2_3 : (⟨S2048x8x8x1,
        .f32⟩ : BufTy).Contents (Elt F) → (⟨S2048x8x8x8, .f32⟩ : BufTy).Contents (Elt F)),
    binary main_v38 main_v39 main_v40 (cmpf .ogt : (⟨S2048x8x8x8, .f32⟩ : BufTy).Contents (Elt F) → (⟨S2048x8x8x8, .f32⟩ :
        BufTy).Contents (Elt F) → (⟨S2048x8x8x8, .i1⟩ : BufTy).Contents (Elt F)),
    unary main_v37 main_v41 (broadcastInDim S2048x8x8x8 ![0, 1, 2, 3] bcast_S2048x8x1x8_S2048x8x8x8_0_1_2_3 : (⟨S2048x8x1x8,
        .f32⟩ : BufTy).Contents (Elt F) → (⟨S2048x8x8x8, .f32⟩ : BufTy).Contents (Elt F)),
    unary main_v36 main_v42 (broadcastInDim S2048x8x8x8 ![0, 1, 2, 3] bcast_S2048x8x8x1_S2048x8x8x8_0_1_2_3 : (⟨S2048x8x8x1,
        .f32⟩ : BufTy).Contents (Elt F) → (⟨S2048x8x8x8, .f32⟩ : BufTy).Contents (Elt F)),
    binary main_v41 main_v42 main_v43 (cmpf .oeq : (⟨S2048x8x8x8, .f32⟩ : BufTy).Contents (Elt F) → (⟨S2048x8x8x8, .f32⟩ :
        BufTy).Contents (Elt F) → (⟨S2048x8x8x8, .i1⟩ : BufTy).Contents (Elt F)),
    unary main_v35 main_v44 (broadcastInDim S1x8 ![1] bcast_S8_S1x8_1 : (⟨S8, .i32⟩ : BufTy).Contents (Elt F) → (⟨S1x8, .i32⟩ :
        BufTy).Contents (Elt F)),
    unary main_v35 main_v45 (broadcastInDim S8x1 ![0] bcast_S8_S8x1_0 : (⟨S8, .i32⟩ : BufTy).Contents (Elt F) → (⟨S8x1, .i32⟩ :
        BufTy).Contents (Elt F)),
    unary main_v44 main_v46 (broadcastInDim S8x8 ![0, 1] bcast_S1x8_S8x8_0_1 : (⟨S1x8, .i32⟩ : BufTy).Contents (Elt F) →
        (⟨S8x8, .i32⟩ : BufTy).Contents (Elt F)),
    unary main_v45 main_v47 (broadcastInDim S8x8 ![0, 1] bcast_S8x1_S8x8_0_1 : (⟨S8x1, .i32⟩ : BufTy).Contents (Elt F) →
        (⟨S8x8, .i32⟩ : BufTy).Contents (Elt F)),
    binary main_v46 main_v47 main_v48 (cmpi .slt : (⟨S8x8, .i32⟩ : BufTy).Contents (Elt F) → (⟨S8x8, .i32⟩ : BufTy).Contents
        (Elt F) → (⟨S8x8, .i1⟩ : BufTy).Contents (Elt F)),
    unary main_v48 main_v49 (broadcastInDim S1x1x8x8 ![2, 3] bcast_S8x8_S1x1x8x8_2_3 : (⟨S8x8, .i1⟩ : BufTy).Contents (Elt F) →
        (⟨S1x1x8x8, .i1⟩ : BufTy).Contents (Elt F)),
    unary main_v49 main_v50 (broadcastInDim S2048x8x8x8 ![0, 1, 2, 3] bcast_S1x1x8x8_S2048x8x8x8_0_1_2_3 : (⟨S1x1x8x8, .i1⟩ :
        BufTy).Contents (Elt F) → (⟨S2048x8x8x8, .i1⟩ : BufTy).Contents (Elt F)),
    binary main_v43 main_v50 main_v51 (andi : (⟨S2048x8x8x8, .i1⟩ : BufTy).Contents (Elt F) → (⟨S2048x8x8x8, .i1⟩ :
        BufTy).Contents (Elt F) → (⟨S2048x8x8x8, .i1⟩ : BufTy).Contents (Elt F)),
    binary main_v40 main_v51 main_v52 (ori : (⟨S2048x8x8x8, .i1⟩ : BufTy).Contents (Elt F) → (⟨S2048x8x8x8, .i1⟩ :
        BufTy).Contents (Elt F) → (⟨S2048x8x8x8, .i1⟩ : BufTy).Contents (Elt F)),
    unary main_v52 main_v53 ((extui 32 · natLt_1_32) : (⟨S2048x8x8x8, .i1⟩ : BufTy).Contents (Elt F) → (⟨S2048x8x8x8, .i32⟩ :
        BufTy).Contents (Elt F)),
    nullary main_c_3 (constantI S_ 32 0#32),
    binary main_v53 main_c_3 main_v54 ((fun x v => Host.reduce IntOp.addi x v reducesTo_S2048x8x8x8_S2048x8x8_d3 h_S_) :
        (⟨S2048x8x8x8, .i32⟩ : BufTy).Contents (Elt F) → (⟨S_, .i32⟩ : BufTy).Contents (Elt F) → (⟨S2048x8x8, .i32⟩ :
        BufTy).Contents (Elt F)),
    nullary main_c_4 (constantI S_ 32 2#32),
    unary main_c_4 main_v55 (broadcastInDim S2048x8x8 ![] bcast_S_S2048x8x8 : (⟨S_, .i32⟩ : BufTy).Contents (Elt F) →
        (⟨S2048x8x8, .i32⟩ : BufTy).Contents (Elt F)),
    binary main_v54 main_v55 main_v56 (cmpi .slt : (⟨S2048x8x8, .i32⟩ : BufTy).Contents (Elt F) → (⟨S2048x8x8, .i32⟩ :
        BufTy).Contents (Elt F) → (⟨S2048x8x8, .i1⟩ : BufTy).Contents (Elt F)),
    nullary main_cst_5 (constant S_ .f32 0xFF800000#32),
    binary main_v34 main_cst_5 main_v57 ((fun x v => Host.reduce FloatOps.maximumf x v reducesTo_S2048x8x8_S2048x8_d2 h_S_) :
        (⟨S2048x8x8, .f32⟩ : BufTy).Contents (Elt F) → (⟨S_, .f32⟩ : BufTy).Contents (Elt F) → (⟨S2048x8, .f32⟩ :
        BufTy).Contents (Elt F)),
    unary main_v57 main_v58 (broadcastInDim S2048x8x1 ![0, 1] bcast_S2048x8_S2048x8x1_0_1 : (⟨S2048x8, .f32⟩ : BufTy).Contents
        (Elt F) → (⟨S2048x8x1, .f32⟩ : BufTy).Contents (Elt F)),
    unary main_v58 main_v59 (broadcastInDim S2048x8x8 ![0, 1, 2] bcast_S2048x8x1_S2048x8x8_0_1_2 : (⟨S2048x8x1, .f32⟩ :
        BufTy).Contents (Elt F) → (⟨S2048x8x8, .f32⟩ : BufTy).Contents (Elt F)),
    binary main_v34 main_v59 main_v60 (subf : (⟨S2048x8x8, .f32⟩ : BufTy).Contents (Elt F) → (⟨S2048x8x8, .f32⟩ :
        BufTy).Contents (Elt F) → (⟨S2048x8x8, .f32⟩ : BufTy).Contents (Elt F)),
    unary main_v60 main_v61 (Host.exp : (⟨S2048x8x8, .f32⟩ : BufTy).Contents (Elt F) → (⟨S2048x8x8, .f32⟩ : BufTy).Contents
        (Elt F)),
    nullary main_cst_6 (constant S_ .f32 0x00000000#32),
    unary main_cst_6 main_call1_v0 id,
    unary main_call1_v0 main_call1_v1 (broadcastInDim S2048x8x8 ![] bcast_S_S2048x8x8),
    ternary main_v56 main_v61 main_call1_v1 main_v62 select,
    nullary main_cst_7 (constant S_ .f32 0x00000000#32),
    binary main_v62 main_cst_7 main_v63 ((fun x v => Host.reduceAdd x v reducesTo_S2048x8x8_S2048x8_d2 h_S_) : (⟨S2048x8x8,
        .f32⟩ : BufTy).Contents (Elt F) → (⟨S_, .f32⟩ : BufTy).Contents (Elt F) → (⟨S2048x8, .f32⟩ : BufTy).Contents (Elt F)),
    unary main_v63 main_v64 (broadcastInDim S2048x8x1 ![0, 1] bcast_S2048x8_S2048x8x1_0_1 : (⟨S2048x8, .f32⟩ : BufTy).Contents
        (Elt F) → (⟨S2048x8x1, .f32⟩ : BufTy).Contents (Elt F)),
    unary main_v64 main_v65 (broadcastInDim S2048x8x8 ![0, 1, 2] bcast_S2048x8x1_S2048x8x8_0_1_2 : (⟨S2048x8x1, .f32⟩ :
        BufTy).Contents (Elt F) → (⟨S2048x8x8, .f32⟩ : BufTy).Contents (Elt F)),
    binary main_v62 main_v65 main_v66 (Host.divf : (⟨S2048x8x8, .f32⟩ : BufTy).Contents (Elt F) → (⟨S2048x8x8, .f32⟩ :
        BufTy).Contents (Elt F) → (⟨S2048x8x8, .f32⟩ : BufTy).Contents (Elt F)),
    binary main_v0 main_arg3 main_v67 ((fun l r => Host.dotGeneral dot_S2048x768_S8x8x1536x768_S2048x8x8x1536_1_3_0_012_n_n
        none l r) : (⟨S2048x768, .f32⟩ : BufTy).Contents (Elt F) → (⟨S8x8x1536x768, .f32⟩ : BufTy).Contents (Elt F) →
        (⟨S2048x8x8x1536, .f32⟩ : BufTy).Contents (Elt F)),
    unary main_arg4 main_v68 (broadcastInDim S1x8x8x1536 ![1, 2, 3] bcast_S8x8x1536_S1x8x8x1536_1_2_3 : (⟨S8x8x1536, .f32⟩ :
        BufTy).Contents (Elt F) → (⟨S1x8x8x1536, .f32⟩ : BufTy).Contents (Elt F)),
    unary main_v68 main_v69 (broadcastInDim S2048x8x8x1536 ![0, 1, 2, 3] bcast_S1x8x8x1536_S2048x8x8x1536_0_1_2_3 :
        (⟨S1x8x8x1536, .f32⟩ : BufTy).Contents (Elt F) → (⟨S2048x8x8x1536, .f32⟩ : BufTy).Contents (Elt F)),
    binary main_v67 main_v69 main_v70 (addf : (⟨S2048x8x8x1536, .f32⟩ : BufTy).Contents (Elt F) → (⟨S2048x8x8x1536, .f32⟩ :
        BufTy).Contents (Elt F) → (⟨S2048x8x8x1536, .f32⟩ : BufTy).Contents (Elt F)),
    nullary main_call2_cst (constant S_ .f32 0x00000000#32),
    unary main_call2_cst main_call2_v0 (broadcastInDim S2048x8x8x1536 ![] bcast_S_S2048x8x8x1536),
    binary main_v70 main_call2_v0 main_v71 maximumf,
    binary main_arg5 main_v71 main_v72 ((fun l r => Host.dotGeneral
        dot_S8x8x768x1536_S2048x8x8x1536_S8x8x768x2048_3_3_2_0_01_12 none l r) : (⟨S8x8x768x1536, .f32⟩ : BufTy).Contents (Elt
        F) → (⟨S2048x8x8x1536, .f32⟩ : BufTy).Contents (Elt F) → (⟨S8x8x768x2048, .f32⟩ : BufTy).Contents (Elt F)),
    unary main_v72 main_v73 ((transpose S2048x8x8x768 [3, 0, 1, 2] · transposes_S8x8x768x2048_S2048x8x8x768_3_0_1_2) :
        (⟨S8x8x768x2048, .f32⟩ : BufTy).Contents (Elt F) → (⟨S2048x8x8x768, .f32⟩ : BufTy).Contents (Elt F)),
    unary main_arg6 main_v74 (broadcastInDim S1x8x8x768 ![1, 2, 3] bcast_S8x8x768_S1x8x8x768_1_2_3 : (⟨S8x8x768, .f32⟩ :
        BufTy).Contents (Elt F) → (⟨S1x8x8x768, .f32⟩ : BufTy).Contents (Elt F)),
    unary main_v74 main_v75 (broadcastInDim S2048x8x8x768 ![0, 1, 2, 3] bcast_S1x8x8x768_S2048x8x8x768_0_1_2_3 : (⟨S1x8x8x768,
        .f32⟩ : BufTy).Contents (Elt F) → (⟨S2048x8x8x768, .f32⟩ : BufTy).Contents (Elt F)),
    binary main_v73 main_v75 main_v76 (addf : (⟨S2048x8x8x768, .f32⟩ : BufTy).Contents (Elt F) → (⟨S2048x8x8x768, .f32⟩ :
        BufTy).Contents (Elt F) → (⟨S2048x8x8x768, .f32⟩ : BufTy).Contents (Elt F)),
    unary main_v66 main_v77 (broadcastInDim S2048x8x8x1 ![0, 1, 2] bcast_S2048x8x8_S2048x8x8x1_0_1_2 : (⟨S2048x8x8, .f32⟩ :
        BufTy).Contents (Elt F) → (⟨S2048x8x8x1, .f32⟩ : BufTy).Contents (Elt F)),
    unary main_v77 main_v78 (broadcastInDim S2048x8x8x768 ![0, 1, 2, 3] bcast_S2048x8x8x1_S2048x8x8x768_0_1_2_3 :
        (⟨S2048x8x8x1, .f32⟩ : BufTy).Contents (Elt F) → (⟨S2048x8x8x768, .f32⟩ : BufTy).Contents (Elt F)),
    binary main_v78 main_v76 main_v79 (mulf : (⟨S2048x8x8x768, .f32⟩ : BufTy).Contents (Elt F) → (⟨S2048x8x8x768, .f32⟩ :
        BufTy).Contents (Elt F) → (⟨S2048x8x8x768, .f32⟩ : BufTy).Contents (Elt F)),
    nullary main_cst_8 (constant S_ .f32 0x00000000#32),
    binary main_v79 main_cst_8 main_v80 ((fun x v => Host.reduceAdd x v reducesTo_S2048x8x8x768_S2048x8x768_d2 h_S_) :
        (⟨S2048x8x8x768, .f32⟩ : BufTy).Contents (Elt F) → (⟨S_, .f32⟩ : BufTy).Contents (Elt F) → (⟨S2048x8x768, .f32⟩ :
        BufTy).Contents (Elt F)),
    unary main_v33 main_v81 (broadcastInDim S2048x8x1 ![0, 1] bcast_S2048x8_S2048x8x1_0_1 : (⟨S2048x8, .f32⟩ : BufTy).Contents
        (Elt F) → (⟨S2048x8x1, .f32⟩ : BufTy).Contents (Elt F)),
    unary main_v81 main_v82 (broadcastInDim S2048x8x768 ![0, 1, 2] bcast_S2048x8x1_S2048x8x768_0_1_2 : (⟨S2048x8x1, .f32⟩ :
        BufTy).Contents (Elt F) → (⟨S2048x8x768, .f32⟩ : BufTy).Contents (Elt F)),
    binary main_v82 main_v80 main_v83 (mulf : (⟨S2048x8x768, .f32⟩ : BufTy).Contents (Elt F) → (⟨S2048x8x768, .f32⟩ :
        BufTy).Contents (Elt F) → (⟨S2048x8x768, .f32⟩ : BufTy).Contents (Elt F)),
    nullary main_cst_9 (constant S_ .f32 0x00000000#32),
    binary main_v83 main_cst_9 main_v84 ((fun x v => Host.reduceAdd x v reducesTo_S2048x8x768_S2048x768_d1 h_S_) :
        (⟨S2048x8x768, .f32⟩ : BufTy).Contents (Elt F) → (⟨S_, .f32⟩ : BufTy).Contents (Elt F) → (⟨S2048x768, .f32⟩ :
        BufTy).Contents (Elt F)),
    reshape main_v84 main_v85 (rfl : (.f32 : EltTy) = .f32) shapeCasts_S2048x768_S1x2048x768 ]

/-- The program is that straight line. -/
theorem main_eq (c : Dev nD) : main (F := F) c = seq ops := rfl

/-- Nothing of the program is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches the device's own buffers only. -/
theorem ops_sub : (ops : List (HloOp τ sig (Elt F))).Forall fun op => op.bufs ⊆ tcRefs τ sig :=
  ⟨reshape_bufs_sub .., binary_bufs_sub .., nullary_bufs_sub .., unary_bufs_sub .., unary_bufs_sub .., unary_bufs_sub ..,
      unary_bufs_sub .., binary_bufs_sub .., unary_bufs_sub .., unary_bufs_sub .., binary_bufs_sub .., unary_bufs_sub ..,
      unary_bufs_sub .., unary_bufs_sub .., unary_bufs_sub .., binary_bufs_sub .., unary_bufs_sub .., unary_bufs_sub ..,
      binary_bufs_sub .., binary_bufs_sub .., unary_bufs_sub .., nullary_bufs_sub .., binary_bufs_sub .., nullary_bufs_sub ..,
      unary_bufs_sub .., binary_bufs_sub .., nullary_bufs_sub .., binary_bufs_sub .., unary_bufs_sub .., unary_bufs_sub ..,
      binary_bufs_sub .., unary_bufs_sub .., nullary_bufs_sub .., unary_bufs_sub .., unary_bufs_sub .., ternary_bufs_sub ..,
      nullary_bufs_sub .., binary_bufs_sub .., unary_bufs_sub .., unary_bufs_sub .., binary_bufs_sub .., binary_bufs_sub ..,
      nullary_bufs_sub .., unary_bufs_sub .., unary_bufs_sub .., unary_bufs_sub .., unary_bufs_sub .., binary_bufs_sub ..,
      unary_bufs_sub .., unary_bufs_sub .., binary_bufs_sub .., unary_bufs_sub .., unary_bufs_sub .., unary_bufs_sub ..,
      unary_bufs_sub .., binary_bufs_sub .., unary_bufs_sub .., unary_bufs_sub .., binary_bufs_sub .., binary_bufs_sub ..,
      unary_bufs_sub .., nullary_bufs_sub .., binary_bufs_sub .., nullary_bufs_sub .., unary_bufs_sub .., binary_bufs_sub ..,
      nullary_bufs_sub .., binary_bufs_sub .., unary_bufs_sub .., unary_bufs_sub .., binary_bufs_sub .., unary_bufs_sub ..,
      nullary_bufs_sub .., unary_bufs_sub .., unary_bufs_sub .., ternary_bufs_sub .., nullary_bufs_sub .., binary_bufs_sub ..,
      unary_bufs_sub .., unary_bufs_sub .., binary_bufs_sub .., binary_bufs_sub .., unary_bufs_sub .., unary_bufs_sub ..,
      binary_bufs_sub .., nullary_bufs_sub .., unary_bufs_sub .., binary_bufs_sub .., binary_bufs_sub .., unary_bufs_sub ..,
      unary_bufs_sub .., unary_bufs_sub .., binary_bufs_sub .., unary_bufs_sub .., unary_bufs_sub .., binary_bufs_sub ..,
      nullary_bufs_sub .., binary_bufs_sub .., unary_bufs_sub .., unary_bufs_sub .., binary_bufs_sub .., nullary_bufs_sub ..,
      binary_bufs_sub .., reshape_bufs_sub ..⟩

variable (V : Valuation τ sig (Elt F))

/-- The result's buffer after the operations. -/
theorem out_eq : after ops V (main_v85 : DevRef τ sig) = out (V (main_arg0 : DevRef τ sig)) (V (main_arg1 : DevRef τ sig))
    (V (main_arg2 : DevRef τ sig)) (V (main_arg3 : DevRef τ sig)) (V (main_arg4 : DevRef τ sig)) (V (main_arg5 : DevRef τ sig))
    (V (main_arg6 : DevRef τ sig)) := by
  after_reads_simp
  rfl

theorem arg0_eq : after ops V (main_arg0 : DevRef τ sig) = V (main_arg0 : DevRef τ sig) := by
  after_reads_simp

theorem arg1_eq : after ops V (main_arg1 : DevRef τ sig) = V (main_arg1 : DevRef τ sig) := by
  after_reads_simp

theorem arg2_eq : after ops V (main_arg2 : DevRef τ sig) = V (main_arg2 : DevRef τ sig) := by
  after_reads_simp

theorem arg3_eq : after ops V (main_arg3 : DevRef τ sig) = V (main_arg3 : DevRef τ sig) := by
  after_reads_simp

theorem arg4_eq : after ops V (main_arg4 : DevRef τ sig) = V (main_arg4 : DevRef τ sig) := by
  after_reads_simp

theorem arg5_eq : after ops V (main_arg5 : DevRef τ sig) = V (main_arg5 : DevRef τ sig) := by
  after_reads_simp

theorem arg6_eq : after ops V (main_arg6 : DevRef τ sig) = V (main_arg6 : DevRef τ sig) := by
  after_reads_simp

/-- Every run ends with the arguments kept, the result of them, and every counter at zero. -/
theorem run_main (m : (ℓ : Loc nD τ sig) → Buf (Elt F) ℓ) (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v85) = out (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6)))
      ∧ r.2.sem = fun _ => 0) :=
  (θ_run defs _ _).mono (fun r h => ⟨fun c => ⟨⟨(h c main_arg0).trans (arg0_eq _), (h c main_arg1).trans (arg1_eq _), (h c
      main_arg2).trans (arg2_eq _), (h c main_arg3).trans (arg3_eq _), (h c main_arg4).trans (arg4_eq _), (h c main_arg5).trans
      (arg5_eq _), (h c main_arg6).trans (arg6_eq _)⟩,
      (h c main_v85).trans (out_eq _)⟩, sem_eq_zero_of_no_sems (by decide) r.2⟩)
    (run_seq scopedRefs_eq scopedSems_eq defs main (fun _ => ops) main_eq (fun _ => ops_sub) m ρ)

end Cert.Proof.Ref
-- ==== Proof.Words.lean ====
/-
  Words and constants as extended reals.
-/
module

public import Idealize.ShloMosaic.Lib.Pointwise
public import Idealize.ShloMosaic.Lib.IdealHost
public import Idealize.ShloMosaic.Lib.Routing.BitFacts

@[expose] public section

noncomputable section

namespace Cert.Proof.Words

open Idealize.ShloMosaic

/-- The constants' values. -/
theorem ofBits_negInf : Ideal.ofBits .f32 0xFF800000#32 = ⊥ := by
  simp [Ideal.ofBits, Ideal.ieee]

theorem ofBits_posInf : Ideal.ofBits .f32 0x7F800000#32 = ⊤ := by
  simp [Ideal.ofBits, Ideal.ieee]

theorem ofBits_half : Ideal.ofBits .f32 0x3F000000#32 = ((1 / 2 : ℝ) : EReal) := by
  simp [Ideal.ofBits, Ideal.ieee, -EReal.coe_mul]; norm_num

/-- A small natural number read back as a word. -/
theorem fptosi_nat {n : ℕ} (h : n < 2 ^ 31) : Ideal.fptosi 32 (n : EReal) = BitVec.ofNat 32 n := by
  have hc : ((n : ℕ) : EReal) = ((n : ℝ) : EReal) := by norm_cast
  rw [hc]
  unfold Ideal.fptosi
  have : Ideal.toIntClamped (-(2 ^ (32 - 1) : Nat)) ((2 ^ (32 - 1) : Nat) - 1) ((n : ℝ) : EReal) = (n : ℤ) := by
    change max _ (min _ (if 0 ≤ (n : ℝ) then ⌊(n : ℝ)⌋ else ⌈(n : ℝ)⌉)) = (n : ℤ)
    rw [if_pos (Nat.cast_nonneg n), Int.floor_natCast]
    have h' : (n : ℤ) < 2 ^ 31 := by exact_mod_cast h
    rw [min_eq_right (by norm_num; omega), max_eq_right (by norm_num)]
  rw [this, BitVec.ofInt_natCast]

/-- A small word as a number. -/
theorem sitofp_nat {φ : FTy} {n : ℕ} (h : n < 2 ^ 31) : (FloatOps.sitofp φ (BitVec.ofNat 32 n) : Ideal φ) = (n : EReal) := by
  change (((BitVec.ofNat 32 n).toInt : ℝ) : EReal) = (n : EReal)
  have : (BitVec.ofNat 32 n).toInt = (n : ℤ) := by
    rw [BitVec.toInt_eq_toNat_of_msb (Routing.msb_ofNat32 h), BitVec.toNat_ofNat, Nat.mod_eq_of_lt (h.trans (by norm_num))]
  rw [this]
  norm_cast

/-- A comparison's bit as a number. -/
theorem sitofp_eq {φ : FTy} (x y : BitVec 32) :
    (FloatOps.sitofp φ (BitVec.setWidth 32 (IntOp.cmpi .eq x y)) : Ideal φ) = if x = y then 1 else 0 := by
  change (((BitVec.setWidth 32 (BitVec.ofBool (x == y))).toInt : ℝ) : EReal) = _
  by_cases h : x = y
  · subst h; simp
  · have : (x == y) = false := by simpa using h
    rw [this, if_neg h]; simp

theorem sitofp_sle {φ : FTy} {i j : ℕ} (hi : i < 2 ^ 31) (hj : j < 2 ^ 31) :
    (FloatOps.sitofp φ (BitVec.setWidth 32 (IntOp.cmpi .sle (BitVec.ofNat 32 i) (BitVec.ofNat 32 j))) : Ideal φ)
      = if i ≤ j then 1 else 0 := by
  change (((BitVec.setWidth 32 (BitVec.ofBool ((BitVec.ofNat 32 i).sle (BitVec.ofNat 32 j)))).toInt : ℝ) : EReal) = _
  rw [Routing.sle_ofNat32 hi hj]
  by_cases h : i ≤ j <;> simp [h]

theorem ofNat_inj {m n : ℕ} (hm : m < 2 ^ 32) (hn : n < 2 ^ 32) : BitVec.ofNat 32 m = BitVec.ofNat 32 n ↔ m = n := by
  refine ⟨fun h => ?_, fun h => h ▸ rfl⟩
  have := congrArg BitVec.toNat h
  rwa [BitVec.toNat_ofNat, BitVec.toNat_ofNat, Nat.mod_eq_of_lt hm, Nat.mod_eq_of_lt hn] at this

/-- A selection by a comparison of words. -/
theorem select_eq {α : Type} (x y : BitVec 32) (u v : α) :
    Scalar.select (IntOp.cmpi .eq x y) u v = if x = y then u else v := by
  change Scalar.select (BitVec.ofBool (x == y)) u v = _
  by_cases h : x = y
  · subst h; simp [Scalar.select]
  · have : (x == y) = false := by simpa using h
    rw [this, if_neg h]; simp [Scalar.select]

end Cert.Proof.Words
-- ==== Proof.Top2.lean ====
/-
  The first two entries of eight extended reals, in the order "larger first, and of equal ones the lower index first".

  `IsTop2 l a b` says that `a` comes first and `b` second.  The order is given both ways round: by the largest entry, its
  first index, and the same again with that entry struck out; and by counting how many entries come before a given one.
-/
module

public import Idealize.ShloMosaic.Lib.Pointwise
public import Idealize.ShloMosaic.Lib.IdealHost
public import Idealize.ShloMosaic.Lib.IndicatorCount
public import Idealize.ShloMosaic.Lib.Routing.BitFacts

@[expose] public section

noncomputable section

namespace Cert.Proof.Top2

open Idealize.ShloMosaic

/-- Entry `j` comes before entry `i`. -/
def Before (l : Fin 8 → EReal) (j i : Fin 8) : Prop := l i < l j ∨ (l j = l i ∧ j < i)

instance (l : Fin 8 → EReal) (j i : Fin 8) : Decidable (Before l j i) := Classical.propDecidable _

/-- `a` comes first and `b` second. -/
structure IsTop2 (l : Fin 8 → EReal) (a b : Fin 8) : Prop where
  ne : b ≠ a
  first : ∀ j, j ≠ a → Before l a j
  second : ∀ j, j ≠ a → j ≠ b → Before l b j

variable {l : Fin 8 → EReal} {a b : Fin 8}

theorem Before.asymm {i j : Fin 8} (h : Before l i j) : ¬ Before l j i := by
  rintro (h' | ⟨h', h''⟩) <;> rcases h with h | ⟨h, hlt⟩
  · exact absurd (h.trans h') (lt_irrefl _)
  · exact absurd h (ne_of_lt h')
  · exact absurd h' (ne_of_lt h)
  · exact absurd (hlt.trans h'') (lt_irrefl _)

theorem before_irrefl (i : Fin 8) : ¬ Before l i i := fun h => h.asymm h

theorem before_total {i j : Fin 8} (h : i ≠ j) : Before l i j ∨ Before l j i := by
  rcases lt_trichotomy (l i) (l j) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- A nonempty set of entries has one that comes before all others. -/
theorem exists_first (l : Fin 8 → EReal) (s : Finset (Fin 8)) (hs : s.Nonempty) : ∃ a ∈ s, ∀ j ∈ s, j ≠ a → Before l a j := by
  obtain ⟨m, hm, hmax⟩ := s.exists_max_image l hs
  have hne : (s.filter fun j => l j = l m).Nonempty := ⟨m, by simp [hm]⟩
  obtain ⟨a, ha, hmin⟩ := (s.filter fun j => l j = l m).exists_min_image id hne
  rw [Finset.mem_filter] at ha
  refine ⟨a, ha.1, fun j hj hne => ?_⟩
  rcases lt_or_eq_of_le (hmax j hj) with h | h
  · exact .inl (h.trans_eq ha.2.symm)
  · exact .inr ⟨ha.2.trans h.symm, lt_of_le_of_ne (hmin j (by simp [hj, h])) (Ne.symm hne)⟩

theorem exists_top2 (l : Fin 8 → EReal) : ∃ a b, IsTop2 l a b := by
  obtain ⟨a, -, ha⟩ := exists_first l Finset.univ ⟨0, Finset.mem_univ 0⟩
  have hne : (Finset.univ.erase a).Nonempty := by
    rw [← Finset.card_pos, Finset.card_erase_of_mem (Finset.mem_univ a)]; decide
  obtain ⟨b, hb, hb'⟩ := exists_first l _ hne
  exact ⟨a, b, Finset.ne_of_mem_erase hb, fun j hj => ha j (Finset.mem_univ j) hj,
    fun j h1 h2 => hb' j (Finset.mem_erase.mpr ⟨h1, Finset.mem_univ j⟩) h2⟩

theorem Before.le {i j : Fin 8} (h : Before l i j) : l j ≤ l i := h.elim le_of_lt fun h => h.1.ge

/-! ## By maxima and first indices -/

/-- The largest entry. -/
theorem fold_max_eq (h : ∀ j, j ≠ a → Before l a j) : Finset.fold max ⊥ l Finset.univ = l a := by
  refine le_antisymm ?_ ?_
  · refine (Finset.fold_max_le _).mpr ⟨bot_le, fun j _ => ?_⟩
    by_cases hj : j = a
    · rw [hj]
    · exact (h j hj).le
  · exact (Finset.le_fold_max _).mpr (.inr ⟨a, Finset.mem_univ a, le_rfl⟩)

theorem toInt_minsi (x y : BitVec 32) : (IntOp.minsi x y).toInt = min x.toInt y.toInt := by
  unfold IntOp.minsi
  by_cases h : x.slt y = true
  · rw [if_pos h, min_eq_left (le_of_lt (BitVec.slt_iff_toInt_lt.mp h))]
  · rw [if_neg h, min_eq_right]
    exact not_lt.mp fun h' => h (BitVec.slt_iff_toInt_lt.mpr h')

theorem toInt_fold_minsi (c : BitVec 32) (f : Fin 8 → BitVec 32) (s : Finset (Fin 8)) :
    (Finset.fold IntOp.minsi c f s).toInt = Finset.fold min c.toInt (fun j => (f j).toInt) s := by
  induction s using Finset.cons_induction with
  | empty => rfl
  | cons j s hj ih => rw [Finset.fold_cons, Finset.fold_cons, toInt_minsi, ih]

/-- The first index holding the largest entry. -/
theorem fold_minsi_eq (h : ∀ j, j ≠ a → Before l a j) :
    Finset.fold IntOp.minsi 2147483647#32 (fun j => if l j = l a then BitVec.ofNat 32 j.val else 8#32) Finset.univ
      = BitVec.ofNat 32 a.val := by
  have hi : ∀ j : Fin 8, (BitVec.ofNat 32 j.val).toInt = j.val := by decide
  refine BitVec.eq_of_toInt_eq ?_
  rw [toInt_fold_minsi, hi]
  refine le_antisymm ?_ ?_
  · refine (Finset.fold_min_le _).mpr (.inr ⟨a, Finset.mem_univ a, ?_⟩)
    rw [if_pos rfl, hi]
  · refine (Finset.le_fold_min _).mpr ⟨?_, fun j _ => ?_⟩
    · have : (2147483647#32 : BitVec 32).toInt = 2147483647 := by decide
      have := a.isLt
      omega
    · have := a.isLt
      split
      · rename_i hj
        rw [hi]
        by_cases hja : j = a
        · rw [hja]
        · rcases h j hja with h' | h'
          · exact absurd hj (ne_of_lt h')
          · exact_mod_cast le_of_lt h'.2
      · have : (8#32 : BitVec 32).toInt = 8 := by decide
        omega

/-- With the first entry struck out, the second comes first. -/
theorem first_of_struck (h : IsTop2 l a b) (hbot : l b ≠ ⊥) (j : Fin 8) (hj : j ≠ b) :
    Before (fun i => if i = a then ⊥ else l i) b j := by
  by_cases hja : j = a
  · refine .inl ?_
    simp only [hja, if_true, if_neg h.ne]
    exact bot_lt_iff_ne_bot.mpr hbot
  · have := h.second j hja hj
    unfold Before at this ⊢
    simpa only [if_neg hja, if_neg h.ne] using this

/-! ## By counting -/

theorem filter_before_first (h : IsTop2 l a b) : (Finset.univ.filter fun j => Before l j a) = ∅ := by
  refine Finset.filter_eq_empty_iff.mpr fun j _ hj => ?_
  by_cases hja : j = a
  · exact before_irrefl a (hja ▸ hj)
  · exact (h.first j hja).asymm hj

theorem filter_before_second (h : IsTop2 l a b) : (Finset.univ.filter fun j => Before l j b) = {a} := by
  ext j
  rw [Finset.mem_filter, Finset.mem_singleton]
  refine ⟨fun hj => ?_, fun hj => ⟨Finset.mem_univ j, hj ▸ h.first b h.ne⟩⟩
  by_contra hja
  by_cases hjb : j = b
  · exact before_irrefl b (hjb ▸ hj.2)
  · exact (h.second j hja hjb).asymm hj.2

/-- Fewer than two entries come before the first two, and no others. -/
theorem card_lt_two (h : IsTop2 l a b) (i : Fin 8) : (Finset.univ.filter fun j => Before l j i).card < 2 ↔ i = a ∨ i = b := by
  refine ⟨fun hc => ?_, ?_⟩
  · by_contra hi
    rw [not_or] at hi
    have hsub : ({a, b} : Finset (Fin 8)) ⊆ Finset.univ.filter fun j => Before l j i := by
      intro j hj
      rw [Finset.mem_insert, Finset.mem_singleton] at hj
      rcases hj with rfl | rfl
      · exact Finset.mem_filter.mpr ⟨Finset.mem_univ _, h.first i hi.1⟩
      · exact Finset.mem_filter.mpr ⟨Finset.mem_univ _, h.second i hi.1 hi.2⟩
    have := Finset.card_le_card hsub
    rw [Finset.card_pair h.ne.symm] at this
    omega
  · rintro (rfl | rfl)
    · rw [filter_before_first h]; decide
    · rw [filter_before_second h, Finset.card_singleton]; decide

/-! ## The weights -/

/-- The exponential of the second entry less the first. -/
def gap (l : Fin 8 → EReal) (a b : Fin 8) : EReal := Ideal.exp (l b - l a)

/-- The softmax weights of the first two, zero elsewhere. -/
def weight (l : Fin 8 → EReal) (a b i : Fin 8) : EReal :=
  if i = a then Ideal.div 1 (1 + gap l a b) else if i = b then Ideal.div (gap l a b) (1 + gap l a b) else 0

/-- The gap of finite entries is a positive real. -/
theorem gap_real (ha : ∃ r : ℝ, l a = r) (hb : ∃ r : ℝ, l b = r) : ∃ r : ℝ, 0 < r ∧ gap l a b = r := by
  obtain ⟨x, hx⟩ := ha
  obtain ⟨y, hy⟩ := hb
  refine ⟨Real.exp (y - x), Real.exp_pos _, ?_⟩
  rw [gap, hx, hy, ← EReal.coe_sub, Ideal.exp_coe]

/-- The weights are finite and not negative. -/
theorem weight_real (ha : ∃ r : ℝ, l a = r) (hb : ∃ r : ℝ, l b = r) (i : Fin 8) : ∃ r : ℝ, 0 ≤ r ∧ weight l a b i = r := by
  obtain ⟨d, hd, hg⟩ := gap_real ha hb
  have h1 : (1 : EReal) + ((d : ℝ) : EReal) = ((1 + d : ℝ) : EReal) := by push_cast; rfl
  have hne : (1 + d : ℝ) ≠ 0 := by positivity
  unfold weight
  rw [hg, h1]
  split
  · refine ⟨1 / (1 + d), by positivity, ?_⟩
    rw [Ideal.div_coe hne, one_mul]
  · split
    · refine ⟨d * (1 / (1 + d)), by positivity, ?_⟩
      rw [Ideal.div_coe hne, EReal.coe_mul]
    · exact ⟨0, le_rfl, rfl⟩

/-- The exponentials of the selected entries less the largest, divided by their sum. -/
theorem softmax_eq (h : IsTop2 l a b) (ha : ∃ r : ℝ, l a = r) (hb : ∃ r : ℝ, l b = r) (i : Fin 8) (e : Fin 8 → EReal)
    (he : ∀ j, e j = if j = a ∨ j = b then Ideal.exp (l j - l a) else 0) : Ideal.div (e i) (∑ j, e j) = weight l a b i := by
  have hea : e a = 1 := by
    obtain ⟨x, hx⟩ := ha
    rw [he, if_pos (.inl rfl), hx, ← EReal.coe_sub, sub_self, Ideal.exp_coe, Real.exp_zero]; rfl
  have heb : e b = gap l a b := by rw [he, if_pos (.inr rfl)]; rfl
  have hsum : ∑ j, e j = 1 + gap l a b := by
    rw [← hea, ← heb, ← Finset.sum_pair h.ne.symm]
    refine (Finset.sum_subset (Finset.subset_univ _) fun j _ hj => ?_).symm
    rw [Finset.mem_insert, Finset.mem_singleton] at hj
    rw [he, if_neg hj]
  rw [hsum]
  unfold weight
  split
  · rename_i hi; rw [hi, hea]
  · split
    · rename_i hi; rw [hi, heb]
    · rename_i h1 h2
      obtain ⟨d, hd, hg⟩ := gap_real ha hb
      have h1' : (1 : EReal) + ((d : ℝ) : EReal) = ((1 + d : ℝ) : EReal) := by push_cast; rfl
      rw [he, if_neg (not_or.mpr ⟨h1, h2⟩), hg, h1', Ideal.div_coe (by positivity), zero_mul]

end Cert.Proof.Top2
-- ==== Proof.Route.lean ====
/-
  The routing's choices and weights at Ideal, entry by entry.

  A token's group logits and its logits within each group are columns of eight.  Where `ga`, `gb` are the token's first two
  groups and `A g`, `B g` the first two experts of group `g`, the routing selects the four experts `A ga`, `B ga`, `A gb`,
  `B gb` (`hits_at`), each with the product of its two softmax weights (`weights_at`).
-/
module

public import proofs.«01_k».proof.Proof.RoutingBody
public import proofs.«01_k».proof.Proof.Top2
public import proofs.«01_k».proof.Proof.Words

@[expose] public section

noncomputable section

namespace Cert.Proof.Route

open Cert.KernelIdeal Cert.KernelIdeal.Gen Cert.KernelIdeal.Routing
open Idealize.ShloMosaic
open Cert.Proof.Top2 (IsTop2 weight)

/-- A token's column of logits. -/
def col (l : FVec Ideal S8x2048 .f32) (t : Fin 2048) : Fin 8 → EReal := fun k => l (ix2 k t)

/-- All logits of the column are finite. -/
def Real8 (f : Fin 8 → EReal) : Prop := ∀ k, ∃ r : ℝ, f k = r

theorem Real8.ne_bot {f : Fin 8 → EReal} (h : Real8 f) (k : Fin 8) : f k ≠ ⊥ := by
  obtain ⟨r, hr⟩ := h k
  rw [hr]; exact EReal.coe_ne_bot r

section Column
variable (l : FVec Ideal S8x2048 .f32) (t : Fin 2048) {a b : Fin 8} (h : IsTop2 (col l t) a b)
include h

theorem max1_at : max1 l (ix2 0 t) = col l t a := by
  pointwise [max1, colMax]
  rw [Words.ofBits_negInf]
  exact Top2.fold_max_eq (l := col l t) h.first

theorem arg1_at : arg1 l (ix2 0 t) = BitVec.ofNat 32 a.val := by
  pointwise [arg1, colArg, rows8]
  rw [max1_at l t h]
  exact Top2.fold_minsi_eq (l := col l t) h.first

theorem rest_at (k : Fin 8) : rest l (ix2 k t) = if k = a then ⊥ else col l t k := by
  pointwise [rest, rows8]
  rw [arg1_at l t h, Words.select_eq, Words.ofBits_negInf]
  have : (BitVec.ofNat 32 k.val = BitVec.ofNat 32 a.val) ↔ k = a := by
    rw [Words.ofNat_inj (by omega) (by omega), Fin.ext_iff]
  simp only [this]
  rfl

theorem col_rest : col (rest l) t = fun k => if k = a then ⊥ else col l t k := funext fun k => rest_at l t h k

theorem max2_at (hr : Real8 (col l t)) : max2 l (ix2 0 t) = col l t b := by
  pointwise [max2, colMax]
  rw [Words.ofBits_negInf]
  refine (Top2.fold_max_eq (l := col (rest l) t) (a := b) ?_).trans ?_
  · rw [col_rest l t h]
    exact Top2.first_of_struck h (hr.ne_bot b)
  · rw [col_rest l t h]
    exact if_neg h.ne

theorem arg2_at (hr : Real8 (col l t)) : arg2 l (ix2 0 t) = BitVec.ofNat 32 b.val := by
  pointwise [arg2, colArg, rows8]
  have hm : max2 l (ix2 0 t) = col (rest l) t b := by
    rw [max2_at l t h hr, col_rest l t h]
    exact (if_neg h.ne).symm
  rw [hm]
  refine Top2.fold_minsi_eq (l := col (rest l) t) (a := b) ?_
  rw [col_rest l t h]
  exact Top2.first_of_struck h (hr.ne_bot b)

theorem wgt1_at (hr : Real8 (col l t)) : wgt1 l (ix2 0 t) = weight (col l t) a b a := by
  pointwise [wgt1, Routing.gap, ones]
  rw [max1_at l t h, max2_at l t h hr, weight, if_pos rfl]
  rfl

theorem wgt2_at (hr : Real8 (col l t)) : wgt2 l (ix2 0 t) = weight (col l t) a b b := by
  pointwise [wgt2, Routing.gap, ones]
  rw [max1_at l t h, max2_at l t h hr, weight, if_neg h.ne, if_pos rfl]
  rfl

end Column

/-! ## Groups -/

/-- Expert `e` of group `g`. -/
def ex (g e : Fin 8) : Fin 64 := ⟨8 * g.val + e.val, by omega⟩

theorem groupSlice_at (el : FVec Ideal S64x2048 .f32) (g e : Fin 8) (t : Fin 2048) :
    groupSlice g el (ix2 e t) = el (ix2 (ex g e) t) := by
  pointwise [groupSlice, ex]

theorem perGroup_at {α : Type} (f : FVec Ideal S8x2048 .f32 → S1x2048.Idx → α) (el : FVec Ideal S64x2048 .f32) (g : Fin 8)
    (t : Fin 2048) : perGroup f el (ix2 g t) = f (groupSlice g el) (ix2 0 t) := by
  pointwise [perGroup]
  fin_cases g <;> rfl

/-! ## Picking by an indicator -/

theorem sum_pick (a : Fin 8) (f : Fin 8 → EReal) :
    ∑ x : Fin 8, (if BitVec.ofNat 32 x.val = BitVec.ofNat 32 a.val then (1 : EReal) else 0) * f x = f a := by
  have : ∀ x : Fin 8, (BitVec.ofNat 32 x.val = BitVec.ofNat 32 a.val) ↔ x = a := fun x => by
    rw [Words.ofNat_inj (by omega) (by omega), Fin.ext_iff]
  simp only [this, ite_mul, one_mul, zero_mul, Finset.sum_ite_eq', Finset.mem_univ, if_true]

theorem pick_at (i : IVec S1x2048 32) (v : FVec Ideal S8x2048 .f32) (t : Fin 2048) (a : Fin 8)
    (hi : i (ix2 0 t) = BitVec.ofNat 32 a.val) : pick (onehot8 i) v (ix2 0 t) = v (ix2 a t) := by
  pointwise [pick, onehot8, rows8]
  simp only [Words.sitofp_eq, hi]
  exact sum_pick a fun x => v (ix2 x t)

theorem selE_at (i : IVec S1x2048 32) (e : IVec S8x2048 32) (t : Fin 2048) (a : Fin 8) (n : Fin 8 → Fin 8)
    (hi : i (ix2 0 t) = BitVec.ofNat 32 a.val) (he : ∀ x, e (ix2 x t) = BitVec.ofNat 32 (n x).val) :
    selE (F := Ideal) i e (ix2 0 t) = BitVec.ofNat 32 (ex a (n a)).val := by
  unfold selE
  change IntOp.addi (IntOp.muli (i (ix2 0 t)) 8#32)
    (FloatOps.fptosi 32 (pick (F := Ideal) (onehot8 i) (sitofp .f32 e) (ix2 0 t))) = _
  rw [pick_at i _ t a hi, hi]
  change IntOp.addi (IntOp.muli (BitVec.ofNat 32 a.val) 8#32)
    (Ideal.fptosi 32 (FloatOps.sitofp .f32 (e (ix2 a t)) : Ideal .f32)) = _
  rw [he, Words.sitofp_nat (by omega), Words.fptosi_nat (by omega)]
  change BitVec.ofNat 32 a.val * 8#32 + BitVec.ofNat 32 (n a).val = BitVec.ofNat 32 (8 * a.val + (n a).val)
  rw [BitVec.ofNat_add, BitVec.ofNat_mul, BitVec.mul_comm]

theorem selW_at (i : IVec S1x2048 32) (w : FVec Ideal S1x2048 .f32) (v : FVec Ideal S8x2048 .f32) (t : Fin 2048) (a : Fin 8)
    (hi : i (ix2 0 t) = BitVec.ofNat 32 a.val) : selW i w v (ix2 0 t) = w (ix2 0 t) * v (ix2 a t) := by
  change w (ix2 0 t) * pick (onehot8 i) v (ix2 0 t) = _
  rw [pick_at i v t a hi]

theorem onehot64_at (i : IVec S1x2048 32) (k n : Fin 64) (t : Fin 2048) (hi : i (ix2 0 t) = BitVec.ofNat 32 n.val) :
    onehot64 (F := Ideal) i (ix2 k t) = if k = n then (1 : EReal) else 0 := by
  pointwise [onehot64, rows64]
  rw [Words.sitofp_eq, hi]
  have : (BitVec.ofNat 32 k.val = BitVec.ofNat 32 n.val) ↔ k = n := by
    rw [Words.ofNat_inj (by omega) (by omega), Fin.ext_iff]
  simp only [this]

theorem ex_inj {g e g' e' : Fin 8} : ex g e = ex g' e' ↔ g = g' ∧ e = e' := by
  rw [Fin.ext_iff, Fin.ext_iff, Fin.ext_iff]
  have := e.isLt
  have := e'.isLt
  unfold ex
  constructor
  · intro h
    have h : 8 * g.val + e.val = 8 * g'.val + e'.val := h
    omega
  · rintro ⟨h1, h2⟩
    change 8 * g.val + e.val = 8 * g'.val + e'.val
    omega

/-! ## The four choices -/

section Choices
variable (gl : FVec Ideal S8x2048 .f32) (el : FVec Ideal S64x2048 .f32) (t : Fin 2048)

/-- The token's logits within group `g`. -/
def ecol (g : Fin 8) : Fin 8 → EReal := fun e => el (ix2 (ex g e) t)

theorem col_groupSlice (g : Fin 8) : col (groupSlice g el) t = ecol el t g := funext fun e => groupSlice_at el g e t

/-- The token's first two groups and each group's first two experts, of finite logits. -/
structure Chosen (ga gb : Fin 8) (A B : Fin 8 → Fin 8) : Prop where
  group : IsTop2 (col gl t) ga gb
  groupReal : Real8 (col gl t)
  expert : ∀ g, IsTop2 (ecol el t g) (A g) (B g)
  expertReal : ∀ g, Real8 (ecol el t g)

variable {gl el t} {ga gb : Fin 8} {A B : Fin 8 → Fin 8} (h : Chosen gl el t ga gb A B)
include h

theorem earg1 (g : Fin 8) : perGroup arg1 el (ix2 g t) = BitVec.ofNat 32 (A g).val := by
  rw [perGroup_at]
  exact arg1_at (groupSlice g el) t (b := B g) (by rw [col_groupSlice]; exact h.expert g)

theorem earg2 (g : Fin 8) : perGroup arg2 el (ix2 g t) = BitVec.ofNat 32 (B g).val := by
  rw [perGroup_at]
  exact arg2_at (groupSlice g el) t (a := A g) (by rw [col_groupSlice]; exact h.expert g)
    (by rw [col_groupSlice]; exact h.expertReal g)

theorem ewgt1 (g : Fin 8) : perGroup wgt1 el (ix2 g t) = weight (ecol el t g) (A g) (B g) (A g) := by
  rw [perGroup_at, ← col_groupSlice]
  exact wgt1_at (groupSlice g el) t (by rw [col_groupSlice]; exact h.expert g) (by rw [col_groupSlice]; exact h.expertReal g)

theorem ewgt2 (g : Fin 8) : perGroup wgt2 el (ix2 g t) = weight (ecol el t g) (A g) (B g) (B g) := by
  rw [perGroup_at, ← col_groupSlice]
  exact wgt2_at (groupSlice g el) t (by rw [col_groupSlice]; exact h.expert g) (by rw [col_groupSlice]; exact h.expertReal g)

theorem garg1 : arg1 gl (ix2 0 t) = BitVec.ofNat 32 ga.val := arg1_at gl t h.group
theorem garg2 : arg2 gl (ix2 0 t) = BitVec.ofNat 32 gb.val := arg2_at gl t h.group h.groupReal

/-- The indicators of the four choices, -/
theorem ind0 (k : Fin 64) : onehot64 (F := Ideal) (choiceE gl el 0) (ix2 k t) = if k = ex ga (A ga) then (1 : EReal) else 0 :=
  onehot64_at _ _ _ _ (selE_at _ _ t ga A (garg1 h) (earg1 h))
theorem ind1 (k : Fin 64) : onehot64 (F := Ideal) (choiceE gl el 1) (ix2 k t) = if k = ex ga (B ga) then (1 : EReal) else 0 :=
  onehot64_at _ _ _ _ (selE_at _ _ t ga B (garg1 h) (earg2 h))
theorem ind2 (k : Fin 64) : onehot64 (F := Ideal) (choiceE gl el 2) (ix2 k t) = if k = ex gb (A gb) then (1 : EReal) else 0 :=
  onehot64_at _ _ _ _ (selE_at _ _ t gb A (garg2 h) (earg1 h))
theorem ind3 (k : Fin 64) : onehot64 (F := Ideal) (choiceE gl el 3) (ix2 k t) = if k = ex gb (B gb) then (1 : EReal) else 0 :=
  onehot64_at _ _ _ _ (selE_at _ _ t gb B (garg2 h) (earg2 h))

/-- and their weights. -/
theorem cw0 : choiceW gl el 0 (ix2 0 t) = weight (col gl t) ga gb ga * weight (ecol el t ga) (A ga) (B ga) (A ga) :=
  (selW_at _ _ _ t ga (garg1 h)).trans (congrArg₂ (· * ·) (wgt1_at gl t h.group h.groupReal) (ewgt1 h ga))
theorem cw1 : choiceW gl el 1 (ix2 0 t) = weight (col gl t) ga gb ga * weight (ecol el t ga) (A ga) (B ga) (B ga) :=
  (selW_at _ _ _ t ga (garg1 h)).trans (congrArg₂ (· * ·) (wgt1_at gl t h.group h.groupReal) (ewgt2 h ga))
theorem cw2 : choiceW gl el 2 (ix2 0 t) = weight (col gl t) ga gb gb * weight (ecol el t gb) (A gb) (B gb) (A gb) :=
  (selW_at _ _ _ t gb (garg2 h)).trans (congrArg₂ (· * ·) (wgt2_at gl t h.group h.groupReal) (ewgt1 h gb))
theorem cw3 : choiceW gl el 3 (ix2 0 t) = weight (col gl t) ga gb gb * weight (ecol el t gb) (A gb) (B gb) (B gb) :=
  (selW_at _ _ _ t gb (garg2 h)).trans (congrArg₂ (· * ·) (wgt2_at gl t h.group h.groupReal) (ewgt2 h gb))

/-- The pair is selected exactly when the group is one of its two and the expert one of the group's two. -/
theorem hits_at (g e : Fin 8) :
    hits gl el (ix2 (ex g e) t) = if (g = ga ∨ g = gb) ∧ (e = A g ∨ e = B g) then (1 : EReal) else 0 := by
  pointwise [hits, zeros64]
  rw [ind0 h, ind1 h, ind2 h, ind3 h]
  simp only [ex_inj]
  have hg := h.group.ne
  have hA := (h.expert g).ne
  by_cases h1 : g = ga
  · subst h1
    by_cases h3 : e = A g
    · subst h3; simp [hA.symm, hg.symm]
    · by_cases h4 : e = B g
      · subst h4; simp [hA, hg.symm]
      · simp [h3, h4, hg, hg.symm]
  · by_cases h2 : g = gb
    · subst h2
      by_cases h3 : e = A g
      · subst h3; simp [hA.symm, hg]
      · by_cases h4 : e = B g
        · subst h4; simp [hA, hg]
        · simp [h3, h4, hg, hg.symm]
    · simp [h1, h2]

/-- The pair's weight is the product of the group's and the expert's. -/
theorem weights_at (g e : Fin 8) :
    weights gl el (ix2 (ex g e) t) = weight (col gl t) ga gb g * weight (ecol el t g) (A g) (B g) e := by
  pointwise [weights, hitW, zeros64]
  rw [ind0 h, ind1 h, ind2 h, ind3 h, cw0 h, cw1 h, cw2 h, cw3 h]
  simp only [ex_inj]
  have hg := h.group.ne
  have hA := (h.expert g).ne
  have hz : ∀ f a b i, i ≠ a → i ≠ b → weight f a b i = 0 := fun f a b i h1 h2 => by
    unfold weight; rw [if_neg h1, if_neg h2]
  by_cases h1 : g = ga
  · subst h1
    by_cases h3 : e = A g
    · subst h3; simp [hA.symm, hg.symm]
    · by_cases h4 : e = B g
      · subst h4; simp [hA, hg.symm]
      · simp [h3, h4, hg, hg.symm, hz _ _ _ _ h3 h4]
  · by_cases h2 : g = gb
    · subst h2
      by_cases h3 : e = A g
      · subst h3; simp [hA.symm, hg]
      · by_cases h4 : e = B g
        · subst h4; simp [hA, hg]
        · simp [h3, h4, hg, hg.symm, hz _ _ _ _ h3 h4]
    · simp [h1, h2, hz _ _ _ _ h1 h2]

end Choices

end Cert.Proof.Route
-- ==== Proof.Arr.lean ====
/-
  What the calls read: the feed-forward call's blocks as places of the arrays it is given, and those arrays as places of the
  arguments and of the routing call's tables.
-/
module

public import proofs.«01_k».proof.Proof.Run
public import proofs.«01_k».proof.Proof.Route
public import Idealize.ShloMosaic.Lib.Pipeline.ValueKit
public import Idealize.ShloMosaic.Lib.StableHlo.RunRead

@[expose] public section

noncomputable section

namespace Cert.Proof.Arr

open Cert.KernelIdeal Cert.KernelIdeal.Gen Cert.KernelIdeal.Run
open Idealize.ShloMosaic Idealize.ShloMosaic.TcCoe Idealize.ShloMosaic.Tactic
open Cert.Proof.Route (ex)

/-! ## A point's block indices and words -/

theorem off1 : ∀ t : Fin grid1.N, k1_off1 (grid1.coords t) = ![2 * t.val] := by decide +kernel
theorem off2 : ∀ t : Fin grid1.N, k1_off2 (grid1.coords t) = ![2 * t.val + 1] := by decide +kernel

theorem idx0 : ∀ t : Fin grid1.N, cc1_transform_0 (grid1.coords t) = ![0, 0] := by decide +kernel
theorem idx1 : ∀ t : Fin grid1.N, cc1_transform_1 (grid1.coords t) = ![t.val, 0, 0] := by decide +kernel
theorem idx2 : ∀ t : Fin grid1.N, cc1_transform_2 (grid1.coords t) = ![t.val, 0, 0] := by decide +kernel
theorem idx3 : ∀ t : Fin grid1.N, cc1_transform_3 (grid1.coords t) = ![t.val, 0, 0] := by decide +kernel
theorem idx4 : ∀ t : Fin grid1.N, cc1_transform_4 (grid1.coords t) = ![t.val, 0, 0] := by decide +kernel
theorem idx5 : ∀ t : Fin grid1.N, cc1_transform_5 (grid1.coords t) = ![t.val, 0, 0] := by decide +kernel
theorem idx6 : ∀ t : Fin grid1.N, cc1_transform_6 (grid1.coords t) = ![t.val, 0, 0] := by decide +kernel

theorem first_iff : ∀ t : Fin grid1.N, Ffn.isFirst (grid1.coords t) ↔ t.val = 0 := by decide +kernel

/-- The two words of the table at a point: the pair's counts. -/
theorem word1_at (t : Fin grid1.N) (x : Vec Ideal S64 .i32) (E : Fin 64) (hE : E.val = 2 * t.val) :
    Ffn.word1 (grid1.coords t) x = x (ix1 E) := by
  unfold Ffn.word1
  refine congrArg x (funext fun a => Fin.ext ?_)
  match a with
  | 0 =>
    change k1_off1 (grid1.coords t) 0 + 1 * 0 = E.val
    rw [off1, hE]
    rfl

theorem word2_at (t : Fin grid1.N) (x : Vec Ideal S64 .i32) (E : Fin 64) (hE : E.val = 2 * t.val + 1) :
    Ffn.word2 (grid1.coords t) x = x (ix1 E) := by
  unfold Ffn.word2
  refine congrArg x (funext fun a => Fin.ext ?_)
  match a with
  | 0 =>
    change k1_off2 (grid1.coords t) 0 + 1 * 0 = E.val
    rw [off2, hE]
    rfl

variable (m : (ℓ : Loc nD τ sig) → Buf (Elt Ideal) ℓ) (c : Dev nD)

/-- The arguments. -/
abbrev a0 : Vec Ideal S1x2048x768 .f32 := m ((c.tc : Thread nD τ).loc main_arg0)
abbrev a1 : Vec Ideal S8x768 .f32 := m ((c.tc : Thread nD τ).loc main_arg1)
abbrev a2 : Vec Ideal S8x8x768 .f32 := m ((c.tc : Thread nD τ).loc main_arg2)
abbrev a3 : Vec Ideal S8x8x1536x768 .f32 := m ((c.tc : Thread nD τ).loc main_arg3)
abbrev a4 : Vec Ideal S8x8x1536 .f32 := m ((c.tc : Thread nD τ).loc main_arg4)
abbrev a5 : Vec Ideal S8x8x768x1536 .f32 := m ((c.tc : Thread nD τ).loc main_arg5)
abbrev a6 : Vec Ideal S8x8x768 .f32 := m ((c.tc : Thread nD τ).loc main_arg6)

/-! ## The blocks -/

section Blocks
variable (t : Fin (cfgR m).N)

theorem blk0 (s : Fin 2048) (d : Fin 768) : blkOf m c 0 t (ix2 s d) = W3 m c main_v8 (ix2 s d) := by
  refine congrArg (W3 m c main_v8) (funext fun a => Fin.ext ?_)
  refine (Pipeline.Window.rect_emb_val (win1 (adm1 m) 0) t (ix2 s d) a).trans ?_
  change cc1_transform_0 (grid1.coords t) a * S2048x768.size a + _ = _
  rw [idx0 t]
  match a with
  | 0 => change 0 * 2048 + s.val = s.val; omega
  | 1 => change 0 * 768 + d.val = d.val; omega

variable (e : Fin 2) (E : Fin 64) (hE : E.val = 2 * t.val + e.val)
include hE

theorem blk1 (s : Fin 2048) : blkOf m c 1 t (ix3 e 0 s) = W3 m c main_v9 (ix3 E 0 s) := by
  refine congrArg (W3 m c main_v9) (funext fun a => Fin.ext ?_)
  refine (Pipeline.Window.rect_emb_val (win1 (adm1 m) 1) t (ix3 e 0 s) a).trans ?_
  change cc1_transform_1 (grid1.coords t) a * S2x1x2048.size a + _ = _
  rw [idx1 t]
  match a with
  | 0 => change t.val * 2 + e.val = E.val; omega
  | 1 => rfl
  | 2 => change 0 * 2048 + s.val = s.val; omega

theorem blk2 (s : Fin 2048) : blkOf m c 2 t (ix3 e 0 s) = W3 m c main_v10 (ix3 E 0 s) := by
  refine congrArg (W3 m c main_v10) (funext fun a => Fin.ext ?_)
  refine (Pipeline.Window.rect_emb_val (win1 (adm1 m) 2) t (ix3 e 0 s) a).trans ?_
  change cc1_transform_2 (grid1.coords t) a * S2x1x2048.size a + _ = _
  rw [idx2 t]
  match a with
  | 0 => change t.val * 2 + e.val = E.val; omega
  | 1 => rfl
  | 2 => change 0 * 2048 + s.val = s.val; omega

theorem blk3 (h : Fin 1536) (d : Fin 768) : blkOf m c 3 t (ix3 e h d) = W3 m c main_v2 (ix3 E h d) := by
  refine congrArg (W3 m c main_v2) (funext fun a => Fin.ext ?_)
  refine (Pipeline.Window.rect_emb_val (win1 (adm1 m) 3) t (ix3 e h d) a).trans ?_
  change cc1_transform_3 (grid1.coords t) a * S2x1536x768.size a + _ = _
  rw [idx3 t]
  match a with
  | 0 => change t.val * 2 + e.val = E.val; omega
  | 1 => change 0 * 1536 + h.val = h.val; omega
  | 2 => change 0 * 768 + d.val = d.val; omega

theorem blk4 (h : Fin 1536) : blkOf m c 4 t (ix3 e 0 h) = W3 m c main_v11 (ix3 E 0 h) := by
  refine congrArg (W3 m c main_v11) (funext fun a => Fin.ext ?_)
  refine (Pipeline.Window.rect_emb_val (win1 (adm1 m) 4) t (ix3 e 0 h) a).trans ?_
  change cc1_transform_4 (grid1.coords t) a * S2x1x1536.size a + _ = _
  rw [idx4 t]
  match a with
  | 0 => change t.val * 2 + e.val = E.val; omega
  | 1 => rfl
  | 2 => change 0 * 1536 + h.val = h.val; omega

theorem blk5 (d : Fin 768) (h : Fin 1536) : blkOf m c 5 t (ix3 e d h) = W3 m c main_v3 (ix3 E d h) := by
  refine congrArg (W3 m c main_v3) (funext fun a => Fin.ext ?_)
  refine (Pipeline.Window.rect_emb_val (win1 (adm1 m) 5) t (ix3 e d h) a).trans ?_
  change cc1_transform_5 (grid1.coords t) a * S2x768x1536.size a + _ = _
  rw [idx5 t]
  match a with
  | 0 => change t.val * 2 + e.val = E.val; omega
  | 1 => change 0 * 768 + d.val = d.val; omega
  | 2 => change 0 * 1536 + h.val = h.val; omega

theorem blk6 (d : Fin 768) : blkOf m c 6 t (ix3 e 0 d) = W3 m c main_v12 (ix3 E 0 d) := by
  refine congrArg (W3 m c main_v12) (funext fun a => Fin.ext ?_)
  refine (Pipeline.Window.rect_emb_val (win1 (adm1 m) 6) t (ix3 e 0 d) a).trans ?_
  change cc1_transform_6 (grid1.coords t) a * S2x1x768.size a + _ = _
  rw [idx6 t]
  match a with
  | 0 => change t.val * 2 + e.val = E.val; omega
  | 1 => rfl
  | 2 => change 0 * 768 + d.val = d.val; omega

end Blocks

/-! ## The arrays -/

theorem v7_at (E : Fin 64) : W3 m c main_v7 (ix1 E) = cnt m c (ix2 0 E) := by
  unfold W3
  after_reads_simp
  have := W2_v6_2 m c
  change shapeCast S64 (W2 m c main_v6_2 : Vec Ideal S1x64 .i32) _ _ = _
  rw [this]
  pointwise

theorem v8_at (s : Fin 2048) (d : Fin 768) : W3 m c main_v8 (ix2 s d) = a0 m c (ix3 0 s d) := by
  unfold W3
  after_reads_simp
  rw [W2_of m c main_v0 (by decide) (by decide) (by decide), W1_eq]
  after_reads_simp
  pointwise

theorem v9_at (E : Fin 64) (s : Fin 2048) : W3 m c main_v9 (ix3 E 0 s) = rt m c (ix2 E s) := by
  unfold W3
  after_reads_simp
  have := W2_v6_1 m c
  change shapeCast S64x1x2048 (W2 m c main_v6_1 : Vec Ideal S64x2048 .i32) _ _ = _
  rw [this]
  pointwise

theorem v10_at (E : Fin 64) (s : Fin 2048) : W3 m c main_v10 (ix3 E 0 s) = wdt m c (ix2 E s) := by
  unfold W3
  after_reads_simp
  have := W2_v6_0 m c
  change shapeCast S64x1x2048 (W2 m c main_v6_0 : Vec Ideal S64x2048 .f32) _ _ = _
  rw [this]
  pointwise

theorem ex_div (g e : Fin 8) (h : (ex g e).val / 8 < 8) : (⟨(ex g e).val / 8, h⟩ : Fin 8) = g :=
  Fin.ext (by change (8 * g.val + e.val) / 8 = g.val; omega)

theorem ex_mod (g e : Fin 8) (h : (ex g e).val % 8 < 8) : (⟨(ex g e).val % 8, h⟩ : Fin 8) = e :=
  Fin.ext (by change (8 * g.val + e.val) % 8 = e.val; omega)

theorem v2_at (g e : Fin 8) (h : Fin 1536) (d : Fin 768) :
    W3 m c main_v2 (ix3 (ex g e) h d) = a3 m c (ix4 g e h d) := by
  unfold W3
  after_reads_simp
  rw [W2_of m c main_v2 (by decide) (by decide) (by decide), W1_eq]
  after_reads_simp
  pointwise
  rw [ex_div, ex_mod]

theorem v3_at (g e : Fin 8) (d : Fin 768) (h : Fin 1536) :
    W3 m c main_v3 (ix3 (ex g e) d h) = a5 m c (ix4 g e d h) := by
  unfold W3
  after_reads_simp
  rw [W2_of m c main_v3 (by decide) (by decide) (by decide), W1_eq]
  after_reads_simp
  pointwise
  rw [ex_div, ex_mod]

theorem v11_at (g e : Fin 8) (h : Fin 1536) :
    W3 m c main_v11 (ix3 (ex g e) 0 h) = a4 m c (ix3 g e h) := by
  unfold W3
  after_reads_simp
  rw [W2_of m c main_v4 (by decide) (by decide) (by decide), W1_eq]
  after_reads_simp
  pointwise
  rw [ex_div, ex_mod]

theorem v12_at (g e : Fin 8) (d : Fin 768) :
    W3 m c main_v12 (ix3 (ex g e) 0 d) = a6 m c (ix3 g e d) := by
  unfold W3
  after_reads_simp
  rw [W2_of m c main_v5 (by decide) (by decide) (by decide), W1_eq]
  after_reads_simp
  pointwise
  rw [ex_div, ex_mod]

/-! ## The logits -/

theorem gl_at (g : Fin 8) (t : Fin 2048) : gl m c (ix2 g t) =
    (∑ d : Fin 768, a0 m c (ix3 0 t d) * a1 m c (ix2 g d) : EReal) := by
  unfold gl
  pointwise [Routing.groupLogits]
  refine Finset.sum_congr rfl fun d _ => ?_
  rw [W1_eq]
  after_reads_simp
  pointwise
  exact mul_comm _ _

theorem el_at (g e : Fin 8) (t : Fin 2048) : el m c (ix2 (ex g e) t) =
    (∑ d : Fin 768, a0 m c (ix3 0 t d) * a2 m c (ix3 g e d) : EReal) := by
  unfold el
  pointwise [Routing.expertLogits]
  refine Finset.sum_congr rfl fun d _ => ?_
  rw [W1_eq]
  after_reads_simp
  pointwise
  rw [ex_div, ex_mod]
  exact mul_comm _ _

/-! ## The result -/

theorem finalOut_at (s : Fin 2048) (d : Fin 768) : finalOut m c (ix3 0 s d) = acc m c 31 (ix2 s d) := by
  unfold finalOut
  after_reads_simp
  have : V4 m (outs m) c main_v13 = acc m c 31 := (congrFun (V4_eq m c) _).trans (W4_v13 m c)
  change shapeCast S1x2048x768 (V4 m (outs m) c main_v13 : Vec Ideal S2048x768 .f32) _ _ = _
  rw [this]
  pointwise

end Cert.Proof.Arr
-- ==== Proof.Finite.lean ====
/-
  The precondition: every token, gate and group gate weight is a real number; hence so is every logit.
-/
module

public import proofs.«01_k».proof.Defs
public import proofs.«01_k».proof.Proof.Words
public import proofs.«01_k».proof.Proof.Arr
public import Idealize.ShloMosaic.Lib.ReduceAll
public import Idealize.ShloMosaic.PureOps.Ideal.Laws

@[expose] public section

noncomputable section

namespace Cert.Proof.Finite

open Idealize.ShloMosaic Idealize.ShloMosaic.TcCoe Idealize.ShloMosaic.Tactic
open Cert.Proof.Arr

/-- The shapes the precondition's operations ask for. -/
theorem facts : Cert.Pre_finite_routing.Facts where
  bcast_S_S1x2048x768 := by decide
  reducesTo_S1x2048x768_S_d0_1_2 := by decide
  h_S_ := by decide
  bcast_S_S8x768 := by decide
  reducesTo_S8x768_S_d0_1 := by decide
  bcast_S_S8x8x768 := by decide
  reducesTo_S8x8x768_S_d0_1_2 := by decide

/-- A number whose absolute value is below infinity is real. -/
theorem real_of_abs_lt (a : EReal) (h : max a (-a) < ⊤) : ∃ r : ℝ, a = r := by
  induction a with
  | bot => simp at h
  | top => simp at h
  | coe r => exact ⟨r, rfl⟩

/-- So it is where the comparison says so. -/
theorem real_of_word (a : Ideal .f32)
    (h : FloatOps.cmpf .olt (FloatOps.hostAbsf a) (Scalar.ofBits .f32 0x7F800000#32 : Ideal .f32) = 1#1) :
    ∃ r : ℝ, (a : EReal) = r := by
  refine real_of_abs_lt a ?_
  change BitVec.ofBool (decide (max (a : EReal) (-a) < Ideal.ofBits .f32 0x7F800000#32)) = 1#1 at h
  rw [Words.ofBits_posInf] at h
  by_contra hn
  rw [decide_eq_false hn] at h
  exact absurd h (by decide)

instance : Subsingleton Cert.Pre_finite_routing.S_.Idx := ⟨fun a b => funext fun i => i.elim0⟩

open Cert.Pre_finite_routing (S_) in
/-- An array whose comparisons all hold is an array of real numbers. -/
theorem real_of_all {s : Shape} {axes : List (Fin s.rank)} (x : FVec Ideal s .f32) (d : Fin 0 → Fin s.rank)
    (hb : S_.BroadcastsInDim s d) (hr : s.ReducesTo axes S_) (hu : 0 < S_.numel) (j : S_.Idx)
    (e : Host.reduce IntOp.andi (cmpf .olt (Host.absf x) (broadcastInDim s d hb (constant (F := Ideal) S_ .f32 0x7F800000#32)))
      (constantI S_ 1 1#1) hr hu j = 1#1) (i : s.Idx) : ∃ r : ℝ, (x i : EReal) = r :=
  real_of_word (x i) (Host.reduce_andi_all _ _ hr hu j e i)

/-- The one index of an array of no dimension. -/
def at0 : Cert.Pre_finite_routing.S_.Idx := fun a => a.elim0

section
attribute [local instance] facts

section Words
open Cert.Pre_finite_routing

variable (x0 : FVec Ideal S1x2048x768 .f32) (x1 : FVec Ideal S8x768 .f32) (x2 : FVec Ideal S8x8x768 .f32)
  (x3 : FVec Ideal S8x8x1536x768 .f32) (x4 : FVec Ideal S8x8x1536 .f32) (x5 : FVec Ideal S8x8x768x1536 .f32)
  (x6 : FVec Ideal S8x8x768 .f32)

theorem fn_real0 (e : (fn (F := Ideal) x0 x1 x2 x3 x4 x5 x6).1 = fun _ => 1#1) (i : S1x2048x768.Idx) :
    ∃ r : ℝ, (x0 i : EReal) = r := by
  simp only [fn] at e
  have e0 := congrFun e at0
  exact real_of_all x0 ![] facts.bcast_S_S1x2048x768 facts.reducesTo_S1x2048x768_S_d0_1_2 facts.h_S_ at0 e0 i

theorem fn_real1 (e : (fn (F := Ideal) x0 x1 x2 x3 x4 x5 x6).2.1 = fun _ => 1#1) (i : S8x768.Idx) :
    ∃ r : ℝ, (x1 i : EReal) = r := by
  simp only [fn] at e
  have e0 := congrFun e at0
  exact real_of_all x1 ![] facts.bcast_S_S8x768 facts.reducesTo_S8x768_S_d0_1 facts.h_S_ at0 e0 i

theorem fn_real2 (e : (fn (F := Ideal) x0 x1 x2 x3 x4 x5 x6).2.2 = fun _ => 1#1) (i : S8x8x768.Idx) :
    ∃ r : ℝ, (x2 i : EReal) = r := by
  simp only [fn] at e
  have e0 := congrFun e at0
  exact real_of_all x2 ![] facts.bcast_S_S8x8x768 facts.reducesTo_S8x8x768_S_d0_1_2 facts.h_S_ at0 e0 i

end Words

variable {m : (ℓ : Loc Cert.KernelIdeal.nD Cert.KernelIdeal.τ Cert.KernelIdeal.sig) → Buf (Elt Ideal) ℓ}
  (h : Cert.Pre_KernelIdeal_finite_routing m) (c : Dev Cert.KernelIdeal.nD)
include h

theorem real0 (i : Cert.KernelIdeal.S1x2048x768.Idx) : ∃ r : ℝ, (a0 m c i : EReal) = r :=
  fn_real0 (a0 m c) (a1 m c) (a2 m c) (a3 m c) (a4 m c) (a5 m c) (a6 m c) (h c).1 i

theorem real1 (i : Cert.KernelIdeal.S8x768.Idx) : ∃ r : ℝ, (a1 m c i : EReal) = r :=
  fn_real1 (a0 m c) (a1 m c) (a2 m c) (a3 m c) (a4 m c) (a5 m c) (a6 m c) (h c).2.1 i

theorem real2 (i : Cert.KernelIdeal.S8x8x768.Idx) : ∃ r : ℝ, (a2 m c i : EReal) = r :=
  fn_real2 (a0 m c) (a1 m c) (a2 m c) (a3 m c) (a4 m c) (a5 m c) (a6 m c) (h c).2.2 i

end

/-- A sum of real numbers is real. -/
theorem real_sum {n : ℕ} (f : Fin n → EReal) (hf : ∀ d, ∃ r : ℝ, f d = r) : ∃ r : ℝ, ∑ d, f d = r := by
  have key : ∀ s : Finset (Fin n), ∃ r : ℝ, ∑ d ∈ s, f d = r := fun s => by
    induction s using Finset.cons_induction with
    | empty => exact ⟨0, by simp⟩
    | cons a s ha ih =>
      obtain ⟨x, hx⟩ := hf a
      obtain ⟨y, hy⟩ := ih
      exact ⟨x + y, by rw [Finset.sum_cons, hx, hy, EReal.coe_add]⟩
  exact key _

/-- So is a sum of their products. -/
theorem real_dot {n : ℕ} (f g : Fin n → EReal) (hf : ∀ d, ∃ r : ℝ, f d = r) (hg : ∀ d, ∃ r : ℝ, g d = r) :
    ∃ r : ℝ, ∑ d, f d * g d = r :=
  real_sum _ fun d => by
    obtain ⟨p, hp⟩ := hf d
    obtain ⟨q, hq⟩ := hg d
    exact ⟨p * q, by rw [hp, hq, EReal.coe_mul]⟩

end Cert.Proof.Finite
-- ==== Proof.Net.lean ====
/-
  One expert's network on one token, and the sum over blocks of gathered rows.

  An expert's selected tokens have ranks `0, 1, …`; block `k` gathers the tokens of ranks `192k, …, 192k + 191` into its rows
  by an indicator, applies the network to each row, and scatters the results back by the same indicator.  Summed over enough
  blocks each selected token gets its own result once, and every other token nothing (`collapse`).
-/
module

public import Idealize.ShloMosaic.Lib.Pointwise

@[expose] public section

noncomputable section

namespace Cert.Proof.Net

/-- An expert's network on one token. -/
def net (w1 : Fin 1536 → Fin 768 → EReal) (b1 : Fin 1536 → EReal) (w2 : Fin 768 → Fin 1536 → EReal)
    (b2 : Fin 768 → EReal) (d : Fin 768) (x : Fin 768 → EReal) : EReal :=
  ∑ h, max (∑ d', x d' * w1 h d' + b1 h) 0 * w2 d h + b2 d

variable {ι : Type} [Fintype ι]

/-- Whether row `r` of block `k` gathers token `s`. -/
def gathers (hit : Fin 2048 → Prop) (rank : Fin 2048 → ℕ) (k : ℕ) (r : Fin 192) (s : Fin 2048) : EReal :=
  open Classical in if hit s ∧ rank s = 192 * k + r.val then 1 else 0

variable {hit : Fin 2048 → Prop} {rank : Fin 2048 → ℕ}

theorem gathers_of {k : ℕ} {r : Fin 192} {s : Fin 2048} (h : hit s ∧ rank s = 192 * k + r.val) :
    gathers hit rank k r s = 1 := if_pos h

theorem gathers_of_not {k : ℕ} {r : Fin 192} {s : Fin 2048} (h : ¬ (hit s ∧ rank s = 192 * k + r.val)) :
    gathers hit rank k r s = 0 := if_neg h

theorem collapse (inj : ∀ s t, hit s → hit t → rank s = rank t → s = t) {n : ℕ} (bound : ∀ t, hit t → rank t < 192 * n)
    (w : Fin 2048 → EReal) (hw : ∀ t, ¬ hit t → w t = 0) (X : Fin 2048 → ι → EReal) (Y : (ι → EReal) → EReal)
    (t : Fin 2048) :
    ∑ k ∈ Finset.range n, ∑ r : Fin 192,
      gathers hit rank k r t * w t * Y (fun d => ∑ s, gathers hit rank k r s * X s d) = w t * Y (X t) := by
  by_cases ht : hit t
  · have hn := bound t ht
    rw [Finset.sum_eq_single (rank t / 192), Finset.sum_eq_single (⟨rank t % 192, Nat.mod_lt _ (by norm_num)⟩ : Fin 192)]
    · have hg : ∀ s, gathers hit rank (rank t / 192) ⟨rank t % 192, Nat.mod_lt _ (by norm_num)⟩ s = if s = t then 1 else 0 := by
        intro s
        by_cases hs : s = t
        · subst hs
          rw [if_pos rfl]
          exact gathers_of ⟨ht, (Nat.div_add_mod _ _).symm⟩
        · rw [if_neg hs]
          refine gathers_of_not fun h => hs (inj s t h.1 ht ?_)
          exact h.2.trans (Nat.div_add_mod _ _)
      simp only [hg, if_true, one_mul, ite_mul, zero_mul, Finset.sum_ite_eq', Finset.mem_univ]
    · intro r _ hr
      rw [gathers_of_not, zero_mul, zero_mul]
      rintro ⟨_, h⟩
      apply hr
      apply Fin.ext
      change r.val = rank t % 192
      omega
    · exact fun h => absurd (Finset.mem_univ _) h
    · intro k _ hk
      refine Finset.sum_eq_zero fun r _ => ?_
      rw [gathers_of_not, zero_mul, zero_mul]
      rintro ⟨_, h⟩
      omega
    · intro h
      exact absurd (Finset.mem_range.mpr (by omega)) h
  · rw [hw t ht, zero_mul]
    refine Finset.sum_eq_zero fun k _ => Finset.sum_eq_zero fun r _ => ?_
    rw [mul_zero, zero_mul]

end Cert.Proof.Net
-- ==== Proof.FfnRead.lean ====
/-
  The feed-forward call's body at Ideal, entry by entry.

  A trip of the block loop adds, for either expert of the pair, the scattered results of the block's gathered rows
  (`ffnTrip_at`); the loop makes as many trips as the larger of the two token counts has blocks (`trips_eq`).
-/
module

public import proofs.«01_k».proof.Proof.FfnBody
public import proofs.«01_k».proof.Proof.Net
public import proofs.«01_k».proof.Proof.Words

@[expose] public section

noncomputable section

namespace Cert.Proof.FfnRead

open Cert.KernelIdeal Cert.KernelIdeal.Gen Cert.KernelIdeal.Ffn
open Idealize.ShloMosaic
open Cert.Proof.Net (net gathers collapse)

/-! ## The trip count -/

theorem divsi_ofNat {a b : ℕ} (ha : a < 2 ^ 31) (hb : b < 2 ^ 31) (h0 : b ≠ 0) :
    Scalar.divsi (BitVec.ofNat 32 a) (BitVec.ofNat 32 b) = BitVec.ofNat 32 (a / b) := by
  change (if IntOp.SDivCorner (BitVec.ofNat 32 a) (BitVec.ofNat 32 b) then _ else (BitVec.ofNat 32 a).sdiv (BitVec.ofNat 32 b)) = _
  rw [if_neg, Routing.sdiv_ofNat32 ha hb]
  unfold IntOp.SDivCorner
  rintro (h | ⟨-, h⟩)
  · have := (Words.ofNat_inj (by omega) (by norm_num)).mp (h : BitVec.ofNat 32 b = BitVec.ofNat 32 0)
    exact h0 this
  · exact Routing.ofNat32_ne_neg_one hb h

theorem maxsi_ofNat {a b : ℕ} (ha : a < 2 ^ 31) (hb : b < 2 ^ 31) :
    Scalar.maxsi (BitVec.ofNat 32 a) (BitVec.ofNat 32 b) = BitVec.ofNat 32 (max a b) := by
  change (if (BitVec.ofNat 32 b).slt (BitVec.ofNat 32 a) then BitVec.ofNat 32 a else BitVec.ofNat 32 b) = _
  rw [Routing.slt_ofNat32 hb ha]
  by_cases h : b < a
  · simp [h, max_eq_left h.le]
  · simp [h, max_eq_right (not_lt.mp h)]

/-- The loop's trips: the blocks of the larger count. -/
theorem trips_eq {c1 c2 : ℕ} (h1 : c1 ≤ 2048) (h2 : c2 ≤ 2048) :
    (k1_t1_loop (BitVec.ofNat 32 c1) (BitVec.ofNat 32 c2)).trips = max ((c1 + 191) / 192) ((c2 + 191) / 192) := by
  have hd : ∀ c, c ≤ 2048 → Scalar.divsi (Scalar.addi (BitVec.ofNat 32 c) 191#32) 192#32 = BitVec.ofNat 32 ((c + 191) / 192) :=
    fun c hc => by
      have : Scalar.addi (BitVec.ofNat 32 c) 191#32 = BitVec.ofNat 32 (c + 191) := (BitVec.ofNat_add ..).symm
      rw [this]
      exact divsi_ofNat (by omega) (by norm_num) (by norm_num)
  set n := max ((c1 + 191) / 192) ((c2 + 191) / 192) with hn
  have hn' : n < 2 ^ 31 := by omega
  have hub : (k1_t1_loop (BitVec.ofNat 32 c1) (BitVec.ofNat 32 c2)).ub = BitVec.ofNat 32 n := by
    change Scalar.addi 0#32 (Scalar.muli (Scalar.divsi (Scalar.subi (Scalar.maxsi
      (Scalar.divsi (Scalar.addi (BitVec.ofNat 32 c1) 191#32) 192#32)
      (Scalar.divsi (Scalar.addi (BitVec.ofNat 32 c2) 191#32) 192#32)) 0#32) 1#32) 1#32) = _
    rw [hd c1 h1, hd c2 h2, maxsi_ofNat (by omega) (by omega), ← hn]
    have : Scalar.subi (BitVec.ofNat 32 n) 0#32 = BitVec.ofNat 32 n := BitVec.sub_zero _
    rw [this]
    have : Scalar.divsi (BitVec.ofNat 32 n) 1#32 = BitVec.ofNat 32 (n / 1) := divsi_ofNat hn' (by norm_num) (by norm_num)
    rw [this, Nat.div_one]
    have : Scalar.muli (BitVec.ofNat 32 n) 1#32 = BitVec.ofNat 32 n := BitVec.mul_one _
    rw [this]
    exact BitVec.zero_add _
  change (((k1_t1_loop (BitVec.ofNat 32 c1) (BitVec.ofNat 32 c2)).ub.toInt - (0#32).toInt + (1#32).toInt - 1) / (1#32).toInt).toNat = n
  rw [hub]
  have : (BitVec.ofNat 32 n).toInt = (n : ℤ) := by
    rw [BitVec.toInt_eq_toNat_of_msb (Routing.msb_ofNat32 hn'), BitVec.toNat_ofNat, Nat.mod_eq_of_lt (by omega)]
  rw [this]
  simp

/-! ## One trip -/

/-- The indicator of the rows' tokens: row `r` against the rank `r + b`. -/
def oneHot {F : FTy → Type} [FloatOps F] (b : BitVec 32) (v : Vec F S1x1x2048 .i32) : FVec F S192x2048 .bf16 :=
  truncf .bf16 (sitofp .f32 (extui 32 (cmpi .eq
    (broadcastTo S192x2048 (shapeCast S1x2048 v shapeCasts_S1x1x2048_S1x2048) broadcasts_S1x2048_S192x2048)
    (broadcastTo S192x2048 (addi (iota .tc S192x1 32 [0] iota_S192x1_d0_w32) (broadcast S192x1 b)) broadcasts_S192x1_S192x2048))
    natLt_1_32)) bitsLt_bf16_f32

theorem oneHot_at (b : BitVec 32) (v : Vec Ideal S1x1x2048 .i32) (r : Fin 192) (t : Fin 2048) :
    oneHot b v (ix2 r t) = if v (ix3 0 0 t) = BitVec.ofNat 32 r.val + b then (1 : EReal) else 0 := by
  pointwise [oneHot]
  exact Words.sitofp_eq _ _

section Trip
variable (v5 v11 : BitVec 32) (k : Fin (k1_t1_loop v5 v11).trips)

/-- A row of a rank table: the ranks of the selected tokens, and minus one elsewhere. -/
def IsRanks (hit : Fin 2048 → Prop) (rank : Fin 2048 → ℕ) (f : Fin 2048 → BitVec 32) : Prop :=
  (∀ t, hit t → rank t < 2048) ∧ ∀ t, f t = open Classical in if hit t then BitVec.ofNat 32 (rank t) else 4294967295#32

theorem oneHot_gathers {hit : Fin 2048 → Prop} {rank : Fin 2048 → ℕ} {v : Vec Ideal S1x1x2048 .i32}
    (hv : IsRanks hit rank fun t => v (ix3 0 0 t)) {k : ℕ} (hk : k < 2 ^ 20) (r : Fin 192) (t : Fin 2048) :
    oneHot (F := Ideal) (Scalar.muli (Scf.iv 0#32 1#32 k) 192#32) v (ix2 r t) = gathers hit rank k r t := by
  rw [oneHot_at]
  have hb : BitVec.ofNat 32 r.val + Scalar.muli (Scf.iv 0#32 1#32 k) 192#32 = BitVec.ofNat 32 (192 * k + r.val) := by
    have : Scf.iv 0#32 1#32 k = BitVec.ofNat 32 k := by
      unfold Scf.iv
      rw [BitVec.zero_add, BitVec.mul_one]
    rw [this]
    change BitVec.ofNat 32 r.val + BitVec.ofNat 32 k * BitVec.ofNat 32 192 = _
    rw [← BitVec.ofNat_mul, ← BitVec.ofNat_add]
    congr 1
    ring
  have ht := hv.2 t
  rw [hb]
  change v (ix3 0 0 t) = _ at ht
  rw [ht]
  by_cases h : hit t
  · have hi := Words.ofNat_inj (m := rank t) (n := 192 * k + r.val) (by have := hv.1 t h; omega) (by omega)
    rw [if_pos h]
    by_cases h' : rank t = 192 * k + r.val
    · rw [if_pos (hi.mpr h'), Net.gathers_of ⟨h, h'⟩]
    · rw [if_neg (mt hi.mp h'), Net.gathers_of_not fun h'' => h' h''.2]
  · rw [if_neg h, if_neg, Net.gathers_of_not fun h'' => h h''.1]
    intro h'
    have := (Words.ofNat_inj (by norm_num) (by omega)).mp (h' : BitVec.ofNat 32 4294967295 = _)
    omega

variable (x2 : Vec Ideal S2048x768 .bf16) (x3 : Vec Ideal S2x1x2048 .i32) (x4 : Vec Ideal S2x1x2048 .f32)
  (x5 : Vec Ideal S2x1536x768 .f32) (x6 : Vec Ideal S2x1x1536 .f32) (x7 : Vec Ideal S2x768x1536 .f32)
  (x8 : Vec Ideal S2x1x768 .f32)

theorem row3_0 (t : Fin 2048) : row3 0 x3 (ix3 0 0 t) = x3 (ix3 0 0 t) := by pointwise [row3]
theorem row3_1 (t : Fin 2048) : row3 1 x3 (ix3 0 0 t) = x3 (ix3 1 0 t) := by pointwise [row3]
theorem row4_0 (t : Fin 2048) : row4 0 x4 (ix3 0 0 t) = x4 (ix3 0 0 t) := by pointwise [row4]
theorem row4_1 (t : Fin 2048) : row4 1 x4 (ix3 0 0 t) = x4 (ix3 1 0 t) := by pointwise [row4]
theorem row5_0 (h : Fin 1536) (d : Fin 768) : row5 0 x5 (ix3 0 h d) = x5 (ix3 0 h d) := by pointwise [row5]
theorem row5_1 (h : Fin 1536) (d : Fin 768) : row5 1 x5 (ix3 0 h d) = x5 (ix3 1 h d) := by pointwise [row5]
theorem row6_0 (h : Fin 1536) : row6 0 x6 (ix3 0 0 h) = x6 (ix3 0 0 h) := by pointwise [row6]
theorem row6_1 (h : Fin 1536) : row6 1 x6 (ix3 0 0 h) = x6 (ix3 1 0 h) := by pointwise [row6]
theorem row7_0 (d : Fin 768) (h : Fin 1536) : row7 0 x7 (ix3 0 d h) = x7 (ix3 0 d h) := by pointwise [row7]
theorem row7_1 (d : Fin 768) (h : Fin 1536) : row7 1 x7 (ix3 0 d h) = x7 (ix3 1 d h) := by pointwise [row7]
theorem row8_0 (d : Fin 768) : row8 0 x8 (ix3 0 0 d) = x8 (ix3 0 0 d) := by pointwise [row8]
theorem row8_1 (d : Fin 768) : row8 1 x8 (ix3 0 0 d) = x8 (ix3 1 0 d) := by pointwise [row8]

/-- Expert `e` of the pair: its network on a token. -/
def net2 (e : Fin 2) (d : Fin 768) : (Fin 768 → EReal) → EReal :=
  net (fun h d => x5 (ix3 e h d)) (fun h => x6 (ix3 e 0 h)) (fun d h => x7 (ix3 e d h)) (fun d => x8 (ix3 e 0 d)) d

/-- What expert `e` of the pair adds to a token in block `k`. -/
def adds (hit : Fin 2048 → Prop) (rank : Fin 2048 → ℕ) (e : Fin 2) (k : ℕ) (t : Fin 2048) (d : Fin 768) : EReal :=
  ∑ r : Fin 192, gathers hit rank k r t * x4 (ix3 e 0 t) *
    net2 x5 x6 x7 x8 e d (fun d' => ∑ s, gathers hit rank k r s * x2 (ix2 s d'))

variable {x2 x3 x4 x5 x6 x7 x8} {hit : Fin 2 → Fin 2048 → Prop} {rank : Fin 2 → Fin 2048 → ℕ}

theorem pay5_pay4 (v : Vec Ideal S1x1x2048 .i32) (r : Fin 192) (t : Fin 2048) :
    k1_pay5 (F := Ideal) v5 v11 0#32 1#32 k v (row4 0 x4) (ix2 r t) =
      k1_pay4 (F := Ideal) v5 v11 0#32 1#32 k v (ix2 r t) * x4 (ix3 0 0 t) := by
  pointwise [k1_pay5]
  rw [row4_0]

theorem pay7_pay6 (v : Vec Ideal S1x1x2048 .i32) (r : Fin 192) (t : Fin 2048) :
    k1_pay7 (F := Ideal) v5 v11 0#32 1#32 k v (row4 1 x4) (ix2 r t) =
      k1_pay6 (F := Ideal) v5 v11 0#32 1#32 k v (ix2 r t) * x4 (ix3 1 0 t) := by
  pointwise [k1_pay7]
  rw [row4_1]

theorem pay9_pay4 (v w : Vec Ideal S1x1x2048 .i32) (r : Fin 192) (d : Fin 768) :
    k1_pay9 (F := Ideal) v5 v11 0#32 1#32 k v w x2 (ix2 r d) =
      ∑ s, k1_pay4 (F := Ideal) v5 v11 0#32 1#32 k v (ix2 r s) * x2 (ix2 s d) := by
  pointwise [k1_pay9, k1_pay8]

theorem pay8_pay6 (v w : Vec Ideal S1x1x2048 .i32) (r : Fin 192) (d : Fin 768) :
    k1_pay8 (F := Ideal) v5 v11 0#32 1#32 k v w x2 (ix2 ⟨192 + r.val, by omega⟩ d) =
      ∑ s, k1_pay6 (F := Ideal) v5 v11 0#32 1#32 k w (ix2 r s) * x2 (ix2 s d) := by
  pointwise [k1_pay8]

section Gathered
variable (hr : ∀ e, IsRanks (hit e) (rank e) fun t => x3 (ix3 e 0 t)) (hk : k.val < 2 ^ 20)
include hr hk

theorem pay4_at (r : Fin 192) (t : Fin 2048) :
    k1_pay4 (F := Ideal) v5 v11 0#32 1#32 k (row3 0 x3) (ix2 r t) = gathers (hit 0) (rank 0) k r t :=
  oneHot_gathers (v := row3 0 x3) ⟨(hr 0).1, fun t => (row3_0 x3 t).trans ((hr 0).2 t)⟩ hk r t

theorem pay6_at (r : Fin 192) (t : Fin 2048) :
    k1_pay6 (F := Ideal) v5 v11 0#32 1#32 k (row3 1 x3) (ix2 r t) = gathers (hit 1) (rank 1) k r t :=
  oneHot_gathers (v := row3 1 x3) ⟨(hr 1).1, fun t => (row3_1 x3 t).trans ((hr 1).2 t)⟩ hk r t

end Gathered

/-- The first expert's rows, after its network. -/
theorem pay11_at (A : Vec Ideal S192x768 .bf16) (r : Fin 192) (d : Fin 768) :
    k1_pay11 (F := Ideal) A (k1_pay10 (row5 0 x5)) (row6 0 x6) (row7 0 x7) (row8 0 x8) (ix2 r d) =
      net2 x5 x6 x7 x8 0 d (fun d => A (ix2 r d)) := by
  pointwise [k1_pay11, k1_pay10]
  exact congrArg₂ (· + ·) (Finset.sum_congr rfl fun h _ => congrArg₂ (· * ·) (congrArg (max · 0) (congrArg₂ (· + ·)
    (Finset.sum_congr rfl fun d' _ => congrArg (A (ix2 r d') * ·) (row5_0 x5 h d')) (row6_0 x6 h))) (row7_0 x7 d h)) (row8_0 x8 d)

/-- The second's, before its last offset. -/
theorem pay12_at (A : Vec Ideal S384x768 .f32) (r : Fin 192) (d : Fin 768) :
    k1_pay12 (F := Ideal) A (row5 1 x5) (row6 1 x6) (row7 1 x7) (ix2 r d) + x8 (ix3 1 0 d) =
      net2 x5 x6 x7 x8 1 d (fun d => A (ix2 ⟨192 + r.val, by omega⟩ d)) := by
  unfold net2 net
  refine congrArg (· + x8 (ix3 1 0 d)) ?_
  pointwise [k1_pay12]
  exact Finset.sum_congr rfl fun h _ => congrArg₂ (· * ·) (congrArg (max · 0) (congrArg₂ (· + ·)
    (Finset.sum_congr rfl fun d' _ => congrArg (A (ix2 ⟨192 + r.val, by omega⟩ d') * ·) (row5_1 x5 h d')) (row6_1 x6 h)))
    (row7_1 x7 d h)

/-- The scattered sum. -/
theorem pay2_at (v36 v51 : Vec Ideal S192x2048 .bf16) (v77 : Vec Ideal S192x768 .bf16) (v94 : Vec Ideal S192x768 .f32)
    (f : Vec Ideal S2048x768 .f32) (t : Fin 2048) (d : Fin 768) :
    k1_pay2 (F := Ideal) v36 v51 v77 v94 (row8 1 x8) f (ix2 t d) =
      f (ix2 t d) + (∑ r, v36 (ix2 r t) * v77 (ix2 r d) + ∑ r, v51 (ix2 r t) * (v94 (ix2 r d) + x8 (ix3 1 0 d))) := by
  pointwise [k1_pay2]
  rw [row8_1]

theorem ffnTrip_at (hr : ∀ e, IsRanks (hit e) (rank e) fun t => x3 (ix3 e 0 t)) (hk : k.val < 2 ^ 20)
    (f : Vec Ideal S2048x768 .f32) (t : Fin 2048) (d : Fin 768) :
    ffnTrip v5 v11 x2 x3 x4 x5 x6 x7 x8 k f (ix2 t d) =
      f (ix2 t d) + (adds x2 x4 x5 x6 x7 x8 (hit 0) (rank 0) 0 k t d + adds x2 x4 x5 x6 x7 x8 (hit 1) (rank 1) 1 k t d) := by
  unfold ffnTrip
  rw [pay2_at]
  refine congrArg (f (ix2 t d) + ·) (congrArg₂ (· + ·)
    (Finset.sum_congr rfl fun r _ => congrArg₂ (· * ·) ?_ ?_) (Finset.sum_congr rfl fun r _ => congrArg₂ (· * ·) ?_ ?_))
  · rw [pay5_pay4, pay4_at v5 v11 k hr hk]
  · rw [pay11_at]
    refine congrArg _ (funext fun d => ?_)
    rw [pay9_pay4]
    exact Finset.sum_congr rfl fun s _ => congrArg (· * x2 (ix2 s d)) (pay4_at v5 v11 k hr hk r s)
  · rw [pay7_pay6, pay6_at v5 v11 k hr hk]
  · rw [pay12_at]
    refine congrArg _ (funext fun d => ?_)
    rw [pay8_pay6]
    exact Finset.sum_congr rfl fun s _ => congrArg (· * x2 (ix2 s d)) (pay6_at v5 v11 k hr hk r s)

/-- The accumulator after `n` trips. -/
theorem ffnAcc_at (hr : ∀ e, IsRanks (hit e) (rank e) fun t => x3 (ix3 e 0 t)) (hT : (k1_t1_loop v5 v11).trips < 2 ^ 20)
    (f : Vec Ideal S2048x768 .f32) (n : ℕ) (hn : n ≤ (k1_t1_loop v5 v11).trips) (t : Fin 2048) (d : Fin 768) :
    ffnAcc v5 v11 x2 x3 x4 x5 x6 x7 x8 f n (ix2 t d) = f (ix2 t d) + ∑ k ∈ Finset.range n,
      (adds x2 x4 x5 x6 x7 x8 (hit 0) (rank 0) 0 k t d + adds x2 x4 x5 x6 x7 x8 (hit 1) (rank 1) 1 k t d) := by
  induction n with
  | zero => rw [Finset.range_zero, Finset.sum_empty, add_zero]; rfl
  | succ n ih =>
    rw [ffnAcc_succ v5 v11 x2 x3 x4 x5 x6 x7 x8 f ⟨n, by omega⟩, ffnTrip_at v5 v11 ⟨n, by omega⟩ hr (by dsimp only; omega),
      ih (by omega), Finset.sum_range_succ, add_assoc]

/-- The whole loop adds, to each token, the weighted result of either expert of the pair. -/
theorem ffnAcc_all {c : Fin 2 → ℕ} (hc : ∀ e, c e ≤ 2048) (hr : ∀ e, IsRanks (hit e) (rank e) fun t => x3 (ix3 e 0 t))
    (inj : ∀ e s t, hit e s → hit e t → rank e s = rank e t → s = t) (bound : ∀ e t, hit e t → rank e t < c e)
    (hw : ∀ e t, ¬ hit e t → x4 (ix3 e 0 t) = (0 : EReal)) (f : Vec Ideal S2048x768 .f32) (t : Fin 2048) (d : Fin 768) :
    ffnAcc (BitVec.ofNat 32 (c 0)) (BitVec.ofNat 32 (c 1)) x2 x3 x4 x5 x6 x7 x8 f
        (k1_t1_loop (BitVec.ofNat 32 (c 0)) (BitVec.ofNat 32 (c 1))).trips (ix2 t d) =
      f (ix2 t d) + (x4 (ix3 0 0 t) * net2 x5 x6 x7 x8 0 d (fun d' => x2 (ix2 t d')) +
        x4 (ix3 1 0 t) * net2 x5 x6 x7 x8 1 d (fun d' => x2 (ix2 t d'))) := by
  have hT := trips_eq (hc 0) (hc 1)
  have h0 := hc 0
  have h1 := hc 1
  rw [ffnAcc_at _ _ hr (by omega) f _ le_rfl, Finset.sum_add_distrib]
  have hb : ∀ e, ∀ t, hit e t → rank e t < 192 * (k1_t1_loop (BitVec.ofNat 32 (c 0)) (BitVec.ofNat 32 (c 1))).trips :=
    fun e t h => by
      have := bound e t h
      rw [hT]
      match e with
      | 0 => omega
      | 1 => omega
  refine congrArg (f (ix2 t d) + ·) (congrArg₂ (· + ·) ?_ ?_)
  · exact collapse (inj 0) (hb 0) (fun t => x4 (ix3 0 0 t)) (hw 0) (fun s d => x2 (ix2 s d)) (net2 x5 x6 x7 x8 0 d) t
  · exact collapse (inj 1) (hb 1) (fun t => x4 (ix3 1 0 t)) (hw 1) (fun s d => x2 (ix2 s d)) (net2 x5 x6 x7 x8 1 d) t

end Trip

end Cert.Proof.FfnRead
-- ==== Proof.Ranks.lean ====
/-
  The routing's ranks and counts at Ideal.

  Of a table of zeros and ones the running counts are counts of numbers: the rank of a selected (expert, token) pair is how
  many earlier tokens the expert has (`rankTable_at`), and the expert's count is how many tokens it has (`counts_at`).
-/
module

public import proofs.«01_k».proof.Proof.RoutingBody
public import proofs.«01_k».proof.Proof.Words

@[expose] public section

noncomputable section

namespace Cert.Proof.Ranks

open Cert.KernelIdeal Cert.KernelIdeal.Gen Cert.KernelIdeal.Routing
open Idealize.ShloMosaic

/-- One where the pair is selected, zero elsewhere and past the tokens. -/
def one (hit : Fin 64 → Fin 2048 → Prop) (k : Fin 64) (s : ℕ) : ℕ :=
  open Classical in if h : s < 2048 then (if hit k ⟨s, h⟩ then 1 else 0) else 0

/-- How many of the first `n` tokens the expert has. -/
def before (hit : Fin 64 → Fin 2048 → Prop) (k : Fin 64) (n : ℕ) : ℕ := ∑ s ∈ Finset.range n, one hit k s

variable {hit : Fin 64 → Fin 2048 → Prop}

theorem one_le (k : Fin 64) (s : ℕ) : one hit k s ≤ 1 := by
  unfold one
  split
  · split <;> omega
  · omega

theorem before_le (k : Fin 64) (n : ℕ) : before hit k n ≤ n := by
  unfold before
  exact (Finset.sum_le_sum fun s _ => one_le k s).trans (by simp)

theorem before_add (k : Fin 64) (n m : ℕ) :
    before hit k (n + m) = before hit k n + ∑ s ∈ Finset.range m, one hit k (n + s) := Finset.sum_range_add _ _ _

theorem before_succ (k : Fin 64) (n : ℕ) : before hit k (n + 1) = before hit k n + one hit k n := Finset.sum_range_succ _ _

theorem one_of {k : Fin 64} {t : Fin 2048} (h : hit k t) : one hit k t.val = 1 := by
  unfold one
  rw [dif_pos t.isLt, if_pos h]

theorem one_of_not {k : Fin 64} {t : Fin 2048} (h : ¬ hit k t) : one hit k t.val = 0 := by
  unfold one
  rw [dif_pos t.isLt, if_neg h]

theorem before_mono (k : Fin 64) {m n : ℕ} (h : m ≤ n) : before hit k m ≤ before hit k n := by
  unfold before
  exact Finset.sum_le_sum_of_subset (Finset.range_mono h)

/-- Selected tokens of one expert have their own ranks, -/
theorem before_inj {k : Fin 64} {s t : Fin 2048} (hs : hit k s) (ht : hit k t)
    (h : before hit k s.val = before hit k t.val) : s = t := by
  rcases lt_trichotomy s.val t.val with hl | hl | hl
  · have := before_mono (hit := hit) k (show s.val + 1 ≤ t.val from hl)
    rw [before_succ, one_of hs] at this
    omega
  · exact Fin.ext hl
  · have := before_mono (hit := hit) k (show t.val + 1 ≤ s.val from hl)
    rw [before_succ, one_of ht] at this
    omega

/-- below the expert's count. -/
theorem before_lt {k : Fin 64} {t : Fin 2048} (ht : hit k t) : before hit k t.val < before hit k 2048 := by
  have := before_mono (hit := hit) k (show t.val + 1 ≤ 2048 from t.isLt)
  rw [before_succ, one_of ht] at this
  omega

/-! ## The script's running counts -/

/-- The table is one on the selected pairs and zero elsewhere. -/
def Indicates (hit : Fin 64 → Fin 2048 → Prop) (nz : FVec Ideal S64x2048 .f32) : Prop :=
  ∀ k t, nz (ix2 k t) = (one hit k t.val : EReal)

variable {nz : FVec Ideal S64x2048 .f32} (hz : Indicates hit nz)
include hz

theorem runs_at (c : Fin 8) (k : Fin 64) (t : Fin 256) :
    runs c nz (ix2 k t) = ((∑ s ∈ Finset.range (t.val + 1), one hit k (256 * c.val + s) : ℕ) : EReal) := by
  pointwise [runs, triu, chunk]
  have h1 : ∀ x : Fin 256, (FloatOps.sitofp .f32 (BitVec.setWidth 32 (IntOp.cmpi .sle (BitVec.ofNat 32 x.val)
      (BitVec.ofNat 32 t.val))) : Ideal .f32) = if x.val ≤ t.val then 1 else 0 := fun x =>
    Words.sitofp_sle (by omega) (by omega)
  have h2 : ∀ x : Fin 256, nz (ix2 k ⟨256 * c.val + x.val, by omega⟩) = (one hit k (256 * c.val + x.val) : EReal) :=
    fun x => hz k ⟨256 * c.val + x.val, by omega⟩
  refine (Finset.sum_congr rfl fun x _ => (congrArg₂ (· * ·) (h2 x) (h1 x) :
    _ = (one hit k (256 * c.val + x.val) : EReal) * (if x.val ≤ t.val then 1 else 0))).trans ?_
  rw [Fin.sum_univ_eq_sum_range
    (fun x => (one hit k (256 * c.val + x) : EReal) * (if x ≤ t.val then 1 else 0)) 256, Nat.cast_sum]
  have hs : Finset.range (t.val + 1) ⊆ Finset.range 256 := Finset.range_mono (by omega)
  rw [← Finset.sum_subset hs]
  · refine Finset.sum_congr rfl fun x hx => ?_
    rw [if_pos (by have := Finset.mem_range.mp hx; omega), mul_one]
  · intro x _ hx
    rw [if_neg (by have := mt Finset.mem_range.mpr hx; omega), mul_zero]

theorem carry_at (n : ℕ) (hn : n ≤ 8) (k : Fin 64) : carry nz n (ix2 k 0) = (before hit k (256 * n) : EReal) := by
  induction n with
  | zero =>
    pointwise [carry]
    simp [before]
  | succ n ih =>
    have h8 : (Fin.ofNat 8 n).val = n := Nat.mod_eq_of_lt (by omega)
    have ht : total (Fin.ofNat 8 n) nz (ix2 k 0) =
        ((∑ s ∈ Finset.range 256, one hit k (256 * n + s) : ℕ) : EReal) := by
      pointwise [total]
      refine (runs_at hz _ k ⟨255, by omega⟩).trans ?_
      rw [h8]
    have := congrArg₂ (· + ·) (ih (by omega)) ht
    refine (this : _ = (before hit k (256 * n) : EReal) + _).trans ?_
    rw [← Nat.cast_add, ← before_add]
    rfl

theorem ranks_at (c : Fin 8) (k : Fin 64) (t : Fin 256) (t' : Fin 2048) (ht : t'.val = 256 * c.val + t.val) :
    ranks c nz (ix2 k t) = open Classical in
      if hit k t' then BitVec.ofNat 32 (before hit k t'.val) else 4294967295#32 := by
  pointwise [ranks]
  have hc : chunk c nz (ix2 k t) = (one hit k t'.val : EReal) := by
    pointwise [chunk]
    refine (congrArg (fun u => nz (ix2 k u)) (Fin.ext ht.symm)).trans (hz k t')
  rw [hc, runs_at hz, carry_at hz _ (by omega), Words.ofBits_half]
  by_cases h : hit k t'
  · rw [if_pos h, one_of h, if_pos, Finset.sum_range_succ, ← ht, one_of h]
    · change Ideal.fptosi 32 _ = _
      have hb : before hit k t'.val = (∑ s ∈ Finset.range t.val, one hit k (256 * c.val + s)) + before hit k (256 * c.val) := by
        rw [ht, before_add, Nat.add_comm]
      rw [← Words.fptosi_nat (n := before hit k t'.val) (by have := before_le (hit := hit) k t'.val; omega), hb]
      refine congrArg _ ?_
      generalize (∑ s ∈ Finset.range t.val, one hit k (256 * c.val + s)) = p
      generalize before hit k (256 * c.val) = q
      have e1 : ∀ n : ℕ, ((n : ℕ) : EReal) = ((n : ℝ) : EReal) := fun n => by norm_cast
      rw [e1 (p + 1), e1 1, e1 q, e1 (p + q), ← EReal.coe_sub, ← EReal.coe_add]
      refine congrArg _ ?_
      push_cast
      ring
    · rw [Nat.cast_one]
      exact_mod_cast (by norm_num : (1 / 2 : ℝ) < 1)
  · rw [if_neg h, one_of_not h, if_neg]
    rw [Nat.cast_zero, not_lt]
    exact_mod_cast (by norm_num : (0 : ℝ) ≤ 1 / 2)

theorem rankTable_at (k : Fin 64) (t : Fin 2048) :
    rankTable nz (ix2 k t) = open Classical in
      if hit k t then BitVec.ofNat 32 (before hit k t.val) else 4294967295#32 := by
  have hi : inChunk (ix2 k t) = ix2 k ⟨t.val % 256, by omega⟩ := by
    funext a
    match a with
    | 0 => rfl
    | 1 => rfl
  change ranks ⟨t.val / 256, _⟩ nz (inChunk (ix2 k t)) = _
  rw [hi]
  exact ranks_at hz ⟨t.val / 256, by omega⟩ k ⟨t.val % 256, by omega⟩ t (by
    change t.val = 256 * (t.val / 256) + t.val % 256
    omega)

theorem counts_at (k : Fin 64) : counts nz (ix2 0 k) = BitVec.ofNat 32 (before hit k 2048) := by
  pointwise [counts]
  rw [carry_at hz 8 le_rfl]
  exact Words.fptosi_nat (by have := before_le (hit := hit) k (256 * 8); omega)

end Cert.Proof.Ranks
-- ==== Proof.Total.lean ====
/-
  The kernel's accumulator: after the last point, the sum over the sixty-four experts of each one's weighted result.
-/
module

public import proofs.«01_k».proof.Proof.Arr
public import proofs.«01_k».proof.Proof.FfnRead
public import proofs.«01_k».proof.Proof.Ranks

@[expose] public section

noncomputable section

namespace Cert.Proof.Total

open Cert.KernelIdeal Cert.KernelIdeal.Gen Cert.KernelIdeal.Run
open Idealize.ShloMosaic Idealize.ShloMosaic.TcCoe Idealize.ShloMosaic.Tactic
open Cert.Proof.Arr Cert.Proof.FfnRead
open Cert.Proof.Net (net)
open Cert.Proof.Route (ex)
open Cert.Proof.Ranks (Indicates before)

variable (m : (ℓ : Loc nD τ sig) → Buf (Elt Ideal) ℓ) (c : Dev nD)

/-- The arrays the feed-forward call is given. -/
abbrev tok : Vec Ideal S2048x768 .bf16 := W3 m c main_v8
abbrev fc1 : Vec Ideal S64x1536x768 .f32 := W3 m c main_v2
abbrev off1 : Vec Ideal S64x1x1536 .f32 := W3 m c main_v11
abbrev fc2 : Vec Ideal S64x768x1536 .f32 := W3 m c main_v3
abbrev off2 : Vec Ideal S64x1x768 .f32 := W3 m c main_v12

/-- One expert's network on one token, of those arrays. -/
def netOf (E : Fin 64) (s : Fin 2048) (d : Fin 768) : EReal :=
  net (fun h d => fc1 m c (ix3 E h d)) (fun h => off1 m c (ix3 E 0 h)) (fun d h => fc2 m c (ix3 E d h))
    (fun d => off2 m c (ix3 E 0 d)) d (fun d => tok m c (ix2 s d))

/-- One expert's weighted result on one token. -/
def term (E : Fin 64) (s : Fin 2048) (d : Fin 768) : EReal := wdt m c (ix2 E s) * netOf m c E s d

/-- The expert `e` of a point's pair. -/
def pairE (t : Fin (cfgR m).N) (e : Fin 2) : Fin 64 :=
  ⟨2 * t.val + e.val, by have := t.isLt; have := N_R m; omega⟩

theorem net2_blk (t : Fin (cfgR m).N) (e : Fin 2) (s : Fin 2048) (d : Fin 768) :
    net2 (blkOf m c 3 t) (blkOf m c 4 t) (blkOf m c 5 t) (blkOf m c 6 t) e d (fun d' => blkOf m c 0 t (ix2 s d')) =
      netOf m c (pairE m t e) s d := by
  unfold net2 netOf
  have e3 : (fun (h : Fin 1536) (d : Fin 768) => blkOf m c 3 t (ix3 e h d)) = fun h d => fc1 m c (ix3 (pairE m t e) h d) :=
    funext fun h => funext fun d => blk3 m c t e _ rfl h d
  have e4 : (fun (h : Fin 1536) => blkOf m c 4 t (ix3 e 0 h)) = fun h => off1 m c (ix3 (pairE m t e) 0 h) :=
    funext fun h => blk4 m c t e _ rfl h
  have e5 : (fun (d : Fin 768) (h : Fin 1536) => blkOf m c 5 t (ix3 e d h)) = fun d h => fc2 m c (ix3 (pairE m t e) d h) :=
    funext fun d => funext fun h => blk5 m c t e _ rfl d h
  have e6 : (fun (d : Fin 768) => blkOf m c 6 t (ix3 e 0 d)) = fun d => off2 m c (ix3 (pairE m t e) 0 d) :=
    funext fun d => blk6 m c t e _ rfl d
  have e0 : (fun (d : Fin 768) => blkOf m c 0 t (ix2 s d)) = fun d => tok m c (ix2 s d) :=
    funext fun d => blk0 m c t s d
  exact congr (congrFun (congr (congr (congr (congrArg net e3) e4) e5) e6) d) e0

variable {hit : Fin 64 → Fin 2048 → Prop} (hz : Indicates hit (Routing.hits (gl m c) (el m c)))
  (hw : ∀ E s, ¬ hit E s → wdt m c (ix2 E s) = (0 : EReal))
include hz hw

/-- One point adds its pair's two weighted results, to nothing at the first point. -/
theorem point_at (t : Fin (cfgR m).N) (x : Vec Ideal S2048x768 .f32) (s : Fin 2048) (d : Fin 768) :
    point m c t x (ix2 s d) = (if t.val = 0 then 0 else x (ix2 s d)) +
      (term m c (pairE m t 0) s d + term m c (pairE m t 1) s d) := by
  have hcnt : ∀ E, cnt m c (ix2 0 E) = BitVec.ofNat 32 (before hit E 2048) := fun E => by
    unfold cnt
    exact Ranks.counts_at hz E
  have hrt : ∀ E s, rt m c (ix2 E s) = open Classical in
      if hit E s then BitVec.ofNat 32 (before hit E s.val) else 4294967295#32 := fun E s => by
    unfold rt
    exact Ranks.rankTable_at hz E s
  unfold point Ffn.ffnOut
  rw [word1_at t _ (pairE m t 0) rfl, word2_at t _ (pairE m t 1) rfl, v7_at, v7_at, hcnt, hcnt]
  refine (ffnAcc_all (c := fun e => before hit (pairE m t e) 2048) (hit := fun e => hit (pairE m t e))
    (rank := fun e s => before hit (pairE m t e) s.val) (fun e => Ranks.before_le _ _)
    (fun e => ⟨fun s _ => lt_of_le_of_lt (Ranks.before_le _ _) s.isLt, fun s => ?_⟩)
    (fun e s s' h h' => Ranks.before_inj h h') (fun e s h => Ranks.before_lt h) (fun e s h => ?_) _ s d).trans ?_
  · exact ((blk1 m c t e (pairE m t e) rfl s).trans (v9_at m c _ s)).trans (hrt _ s)
  · exact ((blk2 m c t e (pairE m t e) rfl s).trans (v10_at m c _ s)).trans (hw _ s h)
  · refine congrArg₂ (· + ·) ?_ (congrArg₂ (· + ·) (congrArg₂ (· * ·) ?_ (net2_blk m c t 0 s d))
      (congrArg₂ (· * ·) ?_ (net2_blk m c t 1 s d)))
    · by_cases ht : t.val = 0
      · rw [if_pos ((first_iff t).mpr ht), if_pos ht]
        pointwise [k1_pay1]
      · rw [if_neg (mt (first_iff t).mp ht), if_neg ht]
    · exact (blk2 m c t 0 (pairE m t 0) rfl s).trans (v10_at m c _ s)
    · exact (blk2 m c t 1 (pairE m t 1) rfl s).trans (v10_at m c _ s)

omit hz hw in
/-- The weighted result of the expert numbered `j`, nothing past the last. -/
def termN (s : Fin 2048) (d : Fin 768) (j : ℕ) : EReal := if h : j < 64 then term m c ⟨j, h⟩ s d else 0

omit hz hw in
theorem termN_of (s : Fin 2048) (d : Fin 768) (E : Fin 64) : termN m c s d E.val = term m c E s d := dif_pos E.isLt

/-- After point `n` the accumulator holds the first `n + 1` pairs' results. -/
theorem acc_at (n : ℕ) (hn : n < 32) (s : Fin 2048) (d : Fin 768) :
    acc m c n (ix2 s d) = ∑ j ∈ Finset.range (2 * (n + 1)), termN m c s d j := by
  have hN := N_R m
  induction n with
  | zero =>
    rw [acc_zero m c ⟨0, by omega⟩ rfl (k1_pay1 (F := Ideal)), point_at m c hz hw, if_pos rfl, zero_add, ← termN_of, ← termN_of]
    exact (Finset.sum_range_succ (termN m c s d) 1).symm ▸ by
      rw [Finset.sum_range_one]; rfl
  | succ n ih =>
    rw [acc_succ m c ⟨n + 1, by omega⟩ (Nat.succ_ne_zero n), point_at m c hz hw, if_neg (Nat.succ_ne_zero n), ← termN_of,
      ← termN_of]
    have h2 : 2 * (n + 1 + 1) = 2 * (n + 1) + 1 + 1 := by ring
    rw [h2, Finset.sum_range_succ, Finset.sum_range_succ, add_assoc, ← ih (by omega)]
    rfl

/-- The result is the sum over the groups and their experts. -/
theorem finalOut_sum (s : Fin 2048) (d : Fin 768) :
    finalOut m c (ix3 0 s d) = ∑ g : Fin 8, ∑ e : Fin 8, term m c (ex g e) s d := by
  rw [finalOut_at, acc_at m c hz hw 31 (by norm_num)]
  change ∑ j ∈ Finset.range 64, termN m c s d j = _
  rw [← Fin.sum_univ_eq_sum_range (termN m c s d) 64]
  simp only [termN_of]
  rw [← Finset.sum_product' Finset.univ Finset.univ fun g e => term m c (ex g e) s d]
  refine (Fintype.sum_equiv (finProdFinEquiv (m := 8) (n := 8)) (fun p => term m c (ex p.1 p.2) s d) _ fun p => ?_).symm
  refine congrArg (fun E => term m c E s d) (Fin.ext ?_)
  change 8 * p.1.val + p.2.val = p.2.val + 8 * p.1.val
  omega

end Cert.Proof.Total
-- ==== Proof.RefRead.lean ====
/-
  The reference's selections and weights, entry by entry.

  A logit is among its column's first two exactly when fewer than two come before it, so the reference's masked softmax is the
  same `Top2.weight` (`groupWeights_at`, `expertWeights_at`); its result is the weighted sum of the experts' outputs.
-/
module

public import proofs.«01_k».proof.Proof.Ref
public import proofs.«01_k».proof.Proof.Top2
public import proofs.«01_k».proof.Proof.Words
public import Idealize.ShloMosaic.Lib.IndicatorCount

@[expose] public section

noncomputable section

namespace Cert.Proof.RefRead

open Cert.ReferenceIdeal Cert.ReferenceIdeal.Gen
open Idealize.ShloMosaic
open Cert.Proof.Ref
open Cert.Proof.Top2 (IsTop2 weight Before)

/-- The bit of the rank order: the later logit comes before, or ties with a lower index. -/
theorem beforeBit (l : Fin 8 → EReal) (k j : Fin 8) :
    IntOp.ori (BitVec.ofBool (decide (l k < l j))) (IntOp.andi (BitVec.ofBool (decide (l j = l k)))
      (IntOp.cmpi .slt (BitVec.ofNat 32 j.val) (BitVec.ofNat 32 k.val))) = 1#1 ↔ Before l j k := by
  change BitVec.ofBool (decide (l k < l j)) ||| (BitVec.ofBool (decide (l j = l k)) &&&
    BitVec.ofBool ((BitVec.ofNat 32 j.val).slt (BitVec.ofNat 32 k.val))) = 1#1 ↔ _
  rw [Routing.slt_ofNat32 (by omega) (by omega)]
  unfold Before
  have hv : j < k ↔ j.val < k.val := Iff.rfl
  rw [hv]
  by_cases h1 : l k < l j <;> by_cases h2 : l j = l k <;> by_cases h3 : j.val < k.val <;> simp [h1, h2, h3]

/-- Counting the bits of those that come before: fewer than two for the first two alone. -/
theorem selectedBit (l : Fin 8 → EReal) {a b : Fin 8} (h : IsTop2 l a b) (p : Fin 8 → BitVec 1) (k : Fin 8)
    (hp : ∀ j, p j = 1#1 ↔ Before l j k) :
    IntOp.cmpi .slt (Finset.fold IntOp.addi 0#32 (fun x => BitVec.setWidth 32 (p x)) Finset.univ) 2#32 =
      BitVec.ofBool (decide (k = a ∨ k = b)) := by
  rw [IndicatorCount.fold_addi_setWidth_eq_card]
  have hc : (Finset.univ.filter fun j => p j = 1#1) = Finset.univ.filter fun j => Before l j k :=
    Finset.filter_congr fun j _ => hp j
  have hle : (Finset.univ.filter fun j => p j = 1#1).card ≤ 8 := (Finset.card_le_univ _).trans (by simp)
  change BitVec.ofBool ((BitVec.ofNat 32 _).slt (BitVec.ofNat 32 2)) = _
  rw [Routing.slt_ofNat32 (by omega) (by omega), hc]
  exact congrArg BitVec.ofBool (decide_eq_decide.mpr (Top2.card_lt_two h k))

theorem select_ofBool {p : Prop} [Decidable p] (u v : EReal) :
    Scalar.select (BitVec.ofBool (decide p)) u v = if p then u else v := by
  by_cases h : p <;> simp [h, Scalar.select]

/-! ## Groups -/

theorem groupWeights_at (l : Vec Ideal S2048x8 .f32) (t : Fin 2048) {a b : Fin 8}
    (h : IsTop2 (fun k => l (ix2 t k)) a b) (hr : ∀ k, ∃ r : ℝ, l (ix2 t k) = r) (k : Fin 8) :
    groupWeights (F := Ideal) (groupExp (groupSelected (groupBefore (F := Ideal) l)) l) (ix2 t k) = weight (fun k => l (ix2 t k)) a b k := by
  have hs : ∀ k, groupSelected (groupBefore (F := Ideal) l) (ix2 t k) = BitVec.ofBool (decide (k = a ∨ k = b)) := fun k => by
    pointwise [groupSelected]
    refine selectedBit (fun k => l (ix2 t k)) h _ k fun j => ?_
    pointwise [groupBefore]
    exact beforeBit (fun k => l (ix2 t k)) k j
  have he : ∀ k, groupExp (F := Ideal) (groupSelected (groupBefore (F := Ideal) l)) l (ix2 t k) =
      if k = a ∨ k = b then Ideal.exp (l (ix2 t k) - l (ix2 t a)) else 0 := fun k => by
    pointwise [groupExp]
    rw [hs, select_ofBool, Words.ofBits_negInf, Top2.fold_max_eq (l := fun k => l (ix2 t k)) h.first]
  pointwise [groupWeights]
  exact Top2.softmax_eq h (hr a) (hr b) k (fun k => groupExp (F := Ideal) (groupSelected (groupBefore (F := Ideal) l)) l (ix2 t k)) he

/-! ## Experts of a group -/

theorem expertWeights_at (l : Vec Ideal S2048x8x8 .f32) (t : Fin 2048) (g : Fin 8) {a b : Fin 8}
    (h : IsTop2 (fun k => l (ix3 t g k)) a b) (hr : ∀ k, ∃ r : ℝ, l (ix3 t g k) = r) (k : Fin 8) :
    expertWeights (F := Ideal) (expertExp (expertSelected (expertBefore (F := Ideal) l)) l) (ix3 t g k) = weight (fun k => l (ix3 t g k)) a b k := by
  have hs : ∀ k, expertSelected (expertBefore (F := Ideal) l) (ix3 t g k) = BitVec.ofBool (decide (k = a ∨ k = b)) := fun k => by
    pointwise [expertSelected]
    refine selectedBit (fun k => l (ix3 t g k)) h _ k fun j => ?_
    pointwise [expertBefore]
    exact beforeBit (fun k => l (ix3 t g k)) k j
  have he : ∀ k, expertExp (F := Ideal) (expertSelected (expertBefore (F := Ideal) l)) l (ix3 t g k) =
      if k = a ∨ k = b then Ideal.exp (l (ix3 t g k) - l (ix3 t g a)) else 0 := fun k => by
    pointwise [expertExp]
    rw [hs, select_ofBool, Words.ofBits_negInf, Top2.fold_max_eq (l := fun k => l (ix3 t g k)) h.first]
  pointwise [expertWeights]
  exact Top2.softmax_eq h (hr a) (hr b) k (fun k => expertExp (F := Ideal) (expertSelected (expertBefore (F := Ideal) l)) l (ix3 t g k)) he

/-! ## The result -/

theorem groupLogits_at (x : Vec Ideal S2048x768 .f32) (w : Vec Ideal S8x768 .f32) (t : Fin 2048) (g : Fin 8) :
    Ref.groupLogits (F := Ideal) x w (ix2 t g) = ∑ d, x (ix2 t d) * w (ix2 g d) := by
  pointwise [Ref.groupLogits]

theorem expertLogits_at (x : Vec Ideal S2048x768 .f32) (w : Vec Ideal S8x8x768 .f32) (t : Fin 2048) (g e : Fin 8) :
    Ref.expertLogits (F := Ideal) x w (ix3 t g e) = ∑ d, x (ix2 t d) * w (ix3 g e d) := by
  pointwise [Ref.expertLogits]

/-- An expert's network on one token. -/
def net (x : Fin 768 → EReal) (w1 : Fin 1536 → Fin 768 → EReal) (b1 : Fin 1536 → EReal) (w2 : Fin 768 → Fin 1536 → EReal)
    (b2 : Fin 768 → EReal) (d : Fin 768) : EReal :=
  ∑ h, max (∑ d', x d' * w1 h d' + b1 h) 0 * w2 d h + b2 d

theorem experts_at (x : Vec Ideal S2048x768 .f32) (w1 : Vec Ideal S8x8x1536x768 .f32) (b1 : Vec Ideal S8x8x1536 .f32)
    (w2 : Vec Ideal S8x8x768x1536 .f32) (b2 : Vec Ideal S8x8x768 .f32) (t : Fin 2048) (g e : Fin 8) (d : Fin 768) :
    Ref.experts (F := Ideal) (Ref.hidden x w1 b1) w2 b2 (ix4 t g e d) =
      net (fun d => x (ix2 t d)) (fun h d => w1 (ix4 g e h d)) (fun h => b1 (ix3 g e h)) (fun d h => w2 (ix4 g e d h))
        (fun d => b2 (ix3 g e d)) d := by
  pointwise [Ref.experts]
  unfold net
  refine congrArg (· + b2 (ix3 g e d)) (Finset.sum_congr rfl fun h _ => ?_)
  pointwise [Cert.Proof.Ref.hidden]
  exact mul_comm _ _

theorem flat_at (x : Vec Ideal S2048x768 .f32) (gw : Vec Ideal S8x8x768 .f32) (ggw : Vec Ideal S8x768 .f32)
    (w1 : Vec Ideal S8x8x1536x768 .f32) (b1 : Vec Ideal S8x8x1536 .f32)
    (w2 : Vec Ideal S8x8x768x1536 .f32) (b2 : Vec Ideal S8x8x768 .f32) (t : Fin 2048) (d : Fin 768)
    {ga gb : Fin 8} {A B : Fin 8 → Fin 8} (G : Fin 8 → EReal) (E : Fin 8 → Fin 8 → EReal)
    (hG : ∀ g, Ref.groupLogits (F := Ideal) x ggw (ix2 t g) = G g) (hE : ∀ g e, Ref.expertLogits (F := Ideal) x gw (ix3 t g e) = E g e)
    (hg : IsTop2 G ga gb) (hgr : ∀ k, ∃ r : ℝ, G k = r)
    (he : ∀ g, IsTop2 (E g) (A g) (B g)) (her : ∀ g k, ∃ r : ℝ, E g k = r) :
    Ref.flat (F := Ideal) x ggw gw w1 b1 w2 b2 (ix2 t d) = ∑ g, weight G ga gb g * ∑ e, weight (E g) (A g) (B g) e *
      net (fun d => x (ix2 t d)) (fun h d => w1 (ix4 g e h d)) (fun h => b1 (ix3 g e h)) (fun d h => w2 (ix4 g e d h))
        (fun d => b2 (ix3 g e d)) d := by
  unfold Ref.flat
  pointwise [Ref.mixed]
  have hG' : (fun k => Ref.groupLogits (F := Ideal) x ggw (ix2 t k)) = G := funext hG
  have hE' : ∀ g, (fun k => Ref.expertLogits (F := Ideal) x gw (ix3 t g k)) = E g := fun g => funext (hE g)
  refine Finset.sum_congr rfl fun g _ => congrArg₂ (· * ·) ?_ (Finset.sum_congr rfl fun e _ => congrArg₂ (· * ·) ?_ ?_)
  · rw [← hG']
    exact groupWeights_at _ t (by rw [hG']; exact hg) (fun k => by rw [hG]; exact hgr k) g
  · rw [← hE' g]
    exact expertWeights_at _ t g (by rw [hE']; exact he g) (fun k => by rw [hE]; exact her g k) e
  · exact experts_at ..

end Cert.Proof.RefRead
-- ==== Proof.Value.lean ====
/-
  The two programs' results are one array: the kernel's sum over all experts of weight times network, with each weight the
  product of its group's and its own, is the reference's sum over the groups of the group's weight times the sum over its
  experts.
-/
module

public import proofs.«01_k».proof.Proof.Finite
public import proofs.«01_k».proof.Proof.Total
public import proofs.«01_k».proof.Proof.RefRead

@[expose] public section

noncomputable section

namespace Cert.Proof.Value

open Cert.KernelIdeal Cert.KernelIdeal.Gen Cert.KernelIdeal.Run
open Idealize.ShloMosaic Idealize.ShloMosaic.TcCoe Idealize.ShloMosaic.Tactic
open Cert.Proof.Route Cert.Proof.Arr Cert.Proof.Top2 Cert.Proof.Total Cert.Proof.Finite Cert.Proof.Ranks

/-- A finite factor at least zero moves into a sum. -/
theorem mul_sum {n : ℕ} (w : EReal) (h0 : 0 ≤ w) (ht : w ≠ ⊤) (f : Fin n → EReal) : w * ∑ e, f e = ∑ e, w * f e := by
  have key : ∀ s : Finset (Fin n), w * ∑ e ∈ s, f e = ∑ e ∈ s, w * f e := fun s => by
    induction s using Finset.cons_induction with
    | empty => simp
    | cons a s ha ih => rw [Finset.sum_cons, Finset.sum_cons, EReal.left_distrib_of_nonneg_of_ne_top h0 ht, ih]
  exact key _

variable (m : (ℓ : Loc nD τ sig) → Buf (Elt Ideal) ℓ) (c : Dev nD)

/-- A token's group logits, and its logits within a group. -/
def G (t : Fin 2048) (g : Fin 8) : EReal := ∑ d : Fin 768, a0 m c (ix3 0 t d) * a1 m c (ix2 g d)
def E (t : Fin 2048) (g e : Fin 8) : EReal := ∑ d : Fin 768, a0 m c (ix3 0 t d) * a2 m c (ix3 g e d)

theorem col_eq (t : Fin 2048) : col (gl m c) t = G m c t := funext fun g => gl_at m c g t
theorem ecol_eq (t : Fin 2048) (g : Fin 8) : ecol (el m c) t g = E m c t g := funext fun e => el_at m c g e t

section
attribute [local instance] Finite.facts
variable {m} (h : Cert.Pre_KernelIdeal_finite_routing m)
include h

theorem real_G (t : Fin 2048) : Real8 (G m c t) := fun g =>
  real_dot _ _ (fun d => real0 h c (ix3 0 t d)) fun d => real1 h c (ix2 g d)

theorem real_E (t : Fin 2048) (g : Fin 8) : Real8 (E m c t g) := fun e =>
  real_dot _ _ (fun d => real0 h c (ix3 0 t d)) fun d => real2 h c (ix3 g e d)

/-- Each token's choice of two groups, and of two experts in every group. -/
theorem chosen (t : Fin 2048) : ∃ ga gb A B, Chosen (gl m c) (el m c) t ga gb A B := by
  obtain ⟨ga, gb, hg⟩ := exists_top2 (G m c t)
  choose A B he using fun g => exists_top2 (E m c t g)
  refine ⟨ga, gb, A, B, ?_, ?_, fun g => ?_, fun g => ?_⟩
  · rw [col_eq]; exact hg
  · rw [col_eq]; exact real_G c h t
  · rw [ecol_eq]; exact he g
  · rw [ecol_eq]; exact real_E c h t g

end

/-- A token's experts: those whose entry in the hit table is one. -/
def hit (k : Fin 64) (t : Fin 2048) : Prop := (Routing.hits (gl m c) (el m c) (ix2 k t) : EReal) = 1

/-- An expert is one of a group's. -/
theorem exists_ex (k : Fin 64) : ∃ g e : Fin 8, k = ex g e := by
  refine ⟨⟨k.val / 8, by omega⟩, ⟨k.val % 8, by omega⟩, Fin.ext ?_⟩
  change k.val = 8 * (k.val / 8) + k.val % 8
  omega

variable {m c} {t : Fin 2048} {ga gb : Fin 8} {A B : Fin 8 → Fin 8} (hc : Chosen (gl m c) (el m c) t ga gb A B)
include hc

theorem hit_iff (g e : Fin 8) : hit m c (ex g e) t ↔ (g = ga ∨ g = gb) ∧ (e = A g ∨ e = B g) := by
  unfold hit
  rw [hits_at hc]
  split <;> simp_all

theorem hits_one (k : Fin 64) : Routing.hits (gl m c) (el m c) (ix2 k t) = (one (hit m c) k t.val : EReal) := by
  by_cases hk : hit m c k t
  · rw [one_of hk, Nat.cast_one]; exact hk
  · rw [one_of_not hk, Nat.cast_zero]
    obtain ⟨g, e, rfl⟩ := exists_ex k
    rw [hits_at hc, if_neg (mt (hit_iff hc g e).mpr hk)]

/-- The weight table's entry. -/
theorem wdt_at (g e : Fin 8) : (wdt m c (ix2 (ex g e) t) : EReal) =
    weight (G m c t) ga gb g * weight (E m c t g) (A g) (B g) e := by
  unfold wdt
  rw [weights_at hc, col_eq, ecol_eq]

/-- It is zero at the experts a token is not sent to. -/
theorem wdt_zero (k : Fin 64) (hk : ¬ hit m c k t) : (wdt m c (ix2 k t) : EReal) = 0 := by
  obtain ⟨g, e, rfl⟩ := exists_ex k
  rw [wdt_at hc]
  by_cases hg : g = ga ∨ g = gb
  · have he : ¬ (e = A g ∨ e = B g) := fun he => hk ((hit_iff hc g e).mpr ⟨hg, he⟩)
    rw [not_or] at he
    unfold weight
    rw [if_neg he.1, if_neg he.2, mul_zero]
  · rw [not_or] at hg
    unfold weight
    rw [if_neg hg.1, if_neg hg.2, zero_mul]

omit hc in
/-- The network of the feed-forward call's arrays is the one of the arguments. -/
theorem netOf_eq (g e : Fin 8) (s : Fin 2048) (d : Fin 768) : netOf m c (ex g e) s d =
    RefRead.net (fun d => a0 m c (ix3 0 s d)) (fun h d => a3 m c (ix4 g e h d)) (fun h => a4 m c (ix3 g e h))
      (fun d h => a5 m c (ix4 g e d h)) (fun d => a6 m c (ix3 g e d)) d := by
  unfold netOf
  have e0 : (fun d => tok m c (ix2 s d)) = fun d => a0 m c (ix3 0 s d) := funext fun d => v8_at m c s d
  have e1 : (fun h d => fc1 m c (ix3 (ex g e) h d)) = fun h d => a3 m c (ix4 g e h d) :=
    funext fun h => funext fun d => v2_at m c g e h d
  have e2 : (fun h => off1 m c (ix3 (ex g e) 0 h)) = fun h => a4 m c (ix3 g e h) := funext fun h => v11_at m c g e h
  have e3 : (fun d h => fc2 m c (ix3 (ex g e) d h)) = fun d h => a5 m c (ix4 g e d h) :=
    funext fun d => funext fun h => v3_at m c g e d h
  have e4 : (fun d => off2 m c (ix3 (ex g e) 0 d)) = fun d => a6 m c (ix3 g e d) := funext fun d => v12_at m c g e d
  rw [e0, e1, e2, e3, e4]
  rfl

omit hc in
/-- The reference's result at an index. -/
theorem out_at (x : Vec Ideal S1x2048x768 .f32) (w : Vec Ideal S8x768 .f32) (v : Vec Ideal S8x8x768 .f32)
    (w1 : Vec Ideal S8x8x1536x768 .f32) (b1 : Vec Ideal S8x8x1536 .f32) (w2 : Vec Ideal S8x8x768x1536 .f32)
    (b2 : Vec Ideal S8x8x768 .f32) (s : Fin 2048) (d : Fin 768) :
    Ref.out (F := Ideal) x w v w1 b1 w2 b2 (ix3 0 s d) = Ref.flat (F := Ideal)
      (shapeCast S2048x768 x Cert.ReferenceIdeal.Gen.shapeCasts_S1x2048x768_S2048x768) w v w1 b1 w2 b2 (ix2 s d) := by
  pointwise [Cert.Proof.Ref.out]

omit hc in
/-- A token's row of the flattened tokens. -/
theorem row_at (x : Vec Ideal S1x2048x768 .f32) (s : Fin 2048) (d : Fin 768) :
    shapeCast S2048x768 x Cert.ReferenceIdeal.Gen.shapeCasts_S1x2048x768_S2048x768 (ix2 s d) = x (ix3 0 s d) := by
  pointwise

section
attribute [local instance] Finite.facts
variable (m c)
omit hc

/-- The kernel's result is the reference's function of the arguments. -/
theorem finalOut_eq (h : Cert.Pre_KernelIdeal_finite_routing m) :
    finalOut m c = Ref.out (F := Ideal) (a0 m c) (a1 m c) (a2 m c) (a3 m c) (a4 m c) (a5 m c) (a6 m c) := by
  funext i
  obtain ⟨z, s, d, rfl⟩ : ∃ (z : Fin 1) (s : Fin 2048) (d : Fin 768), i = ix3 z s d := ⟨i 0, i 1, i 2, by
    funext a; match a with | 0 => rfl | 1 => rfl | 2 => rfl⟩
  obtain rfl : z = 0 := Subsingleton.elim _ _
  choose ga gb A B hc using chosen c h
  have hg : IsTop2 (G m c s) (ga s) (gb s) := col_eq m c s ▸ (hc s).group
  have he : ∀ g, IsTop2 (E m c s g) (A s g) (B s g) := fun g => ecol_eq m c s g ▸ (hc s).expert g
  rw [finalOut_sum m c (hit := hit m c) (fun k t => hits_one (hc t) k) (fun k t => wdt_zero (hc t) k) s d, out_at,
    RefRead.flat_at _ _ _ _ _ _ _ s d (G m c s) (E m c s) (fun g => ?_) (fun g e => ?_) hg
      (real_G c h s) he (real_E c h s)]
  · refine Finset.sum_congr rfl fun g _ => ?_
    obtain ⟨r, h0, hr⟩ := weight_real (real_G c h s (ga s)) (real_G c h s (gb s)) g
    rw [mul_sum _ (by rw [hr]; exact_mod_cast h0) (by rw [hr]; exact EReal.coe_ne_top r)]
    refine Finset.sum_congr rfl fun e _ => ?_
    unfold term
    rw [wdt_at (hc s), mul_assoc, netOf_eq]
    exact congrArg (_ * ·) (congrArg (_ * ·)
      (congrArg (fun x => RefRead.net x _ _ _ _ d) (funext fun d => (row_at _ s d).symm)))
  · rw [RefRead.groupLogits_at]
    exact Finset.sum_congr rfl fun d _ => congrArg (· * _) (row_at _ s d)
  · rw [RefRead.expertLogits_at]
    exact Finset.sum_congr rfl fun d _ => congrArg (· * _) (row_at _ s d)

end

end Cert.Proof.Value
-- ==== Proof.lean ====
/-
  The claims about the kernel, its idealisation and the reference.

  The two kernel programs' runs are `Run.run_main` and `RunBits.run_main`, the reference's is `Ref.run_main`; the frame claims
  read the arguments and the counters off them.  `Value.finalOut_eq` says that the results the two ideal programs end with are
  one array.
-/
module

public import proofs.«01_k».proof.Defs
public import proofs.«01_k».proof.Proof.Run
public import proofs.«01_k».proof.Proof.RunBits
public import proofs.«01_k».proof.Proof.Ref
public import proofs.«01_k».proof.Proof.Value

@[expose] public section

noncomputable section

namespace Cert.Proof

open Idealize.ShloMosaic Idealize.SL.Sem

attribute [local instance] Finite.facts

/-- Every run of the kernel ends, keeps its arguments and brings every counter back to zero. -/
theorem frame_kernel : Cert.quiescent_Kernel := fun m ρ _ =>
  (θ_run Cert.Kernel.defs _ _).mono (fun _ h => ⟨fun c => (h.1 c).1, h.2⟩) (Cert.Kernel.Run.run_main (F := Bits) m ρ)

/-- So does every run of its idealisation, -/
theorem frame_ideal : Cert.quiescent_KernelIdeal := fun m ρ _ =>
  (θ_run Cert.KernelIdeal.defs _ _).mono (fun _ h => ⟨fun c => (h.1 c).1, h.2⟩)
    (Cert.KernelIdeal.Run.run_main (F := Ideal) m ρ)

/-- and every run of the reference. -/
theorem frame_ref : Cert.quiescent_ReferenceIdeal := fun m ρ _ =>
  (θ_run Cert.ReferenceIdeal.defs _ _).mono (fun _ h => ⟨fun c => (h.1 c).1, h.2⟩) (Ref.run_main (F := Ideal) m ρ)

/-- The same where the precondition holds. -/
theorem frame_ideal_pre : Cert.quiescent_KernelIdeal_pre_finite_routing := fun m ρ _ => frame_ideal m ρ trivial

theorem frame_ref_pre : Cert.quiescent_ReferenceIdeal_pre_finite_routing := fun m ρ _ => frame_ref m ρ trivial

/-- From equal arguments, with every token and gate weight real, the kernel's idealisation and the reference end with one
    array. -/
theorem algebraic : Cert.algebraic_KernelIdeal_ReferenceIdeal_pre_finite_routing := fun m ρ m' ρ' hm hargs =>
  ⟨fun c => Cert.KernelIdeal.Run.finalOut m c,
    (θ_run Cert.KernelIdeal.defs _ _).mono (fun _ h c => ⟨(h.1 c).2, (h.1 c).1⟩)
      (Cert.KernelIdeal.Run.run_main (F := Ideal) m ρ),
    (θ_run Cert.ReferenceIdeal.defs _ _).mono
      (fun _ h c => ⟨(h.1 c).2.trans (by
        obtain ⟨e0, e1, e2, e3, e4, e5, e6⟩ := hargs c
        rw [e0, e1, e2, e3, e4, e5, e6]
        exact (Value.finalOut_eq m c hm).symm), (h.1 c).1⟩)
      (Ref.run_main (F := Ideal) m' ρ')⟩

theorem claim : Cert.Claim :=
  ⟨Cert.Kernel.Gen.facts, Cert.KernelIdeal.Gen.facts, Cert.ReferenceIdeal.Gen.facts, Finite.facts, frame_kernel, frame_ideal,
    frame_ideal_pre, frame_ref, frame_ref_pre, trivial, algebraic⟩

end Cert.Proof

end
